-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x512x9 : Shape := ⟨3, ![64, 512, 9]⟩
abbrev S64x512 : Shape := ⟨2, ![64, 512]⟩
abbrev S3x5 : Shape := ⟨2, ![3, 5]⟩
abbrev S9 : Shape := ⟨1, ![9]⟩
abbrev S_ : Shape := ⟨0, ![]⟩

class Facts : Prop where
  bcast_S_S64x512 : S_.BroadcastsInDim S64x512 (![] : Fin 0 → Fin S64x512.rank)
  bcast_S_S64x512x9 : S_.BroadcastsInDim S64x512x9 (![] : Fin 0 → Fin S64x512x9.rank)
  bcast_S_S3x5 : S_.BroadcastsInDim S3x5 (![] : Fin 0 → Fin S3x5.rank)
  bcast_S_S9 : S_.BroadcastsInDim S9 (![] : Fin 0 → Fin S9.rank)

variable [Facts]

def fn_part1 {F : FTy → Type} [FloatOps F] (main_arg4 : FVec F S9 .f32) (main_arg5 : FVec F S9 .f32) (main_v1 : IVec S64x512 1) (main_v6 : IVec S64x512 1) (main_v11 : IVec S64x512x9 1) (main_v16 : IVec S3x5 1) : IVec S64x512 1 × IVec S64x512 1 × IVec S64x512x9 1 × IVec S3x5 1 × IVec S9 1 × IVec S9 1 :=
  let main_cst_5 : FVec F S_ .f32 := constant S_ .f32 0xC7800000#32
  let main_v17 : FVec F S9 .f32 := broadcastInDim S9 ![] bcast_S_S9 main_cst_5
  let main_v18 : IVec S9 1 := cmpf .oge main_arg4 main_v17
  let main_cst_6 : FVec F S_ .f32 := constant S_ .f32 0x47800000#32
  let main_v19 : FVec F S9 .f32 := broadcastInDim S9 ![] bcast_S_S9 main_cst_6
  let main_v20 : IVec S9 1 := cmpf .ole main_arg4 main_v19
  let main_v21 : IVec S9 1 := andi main_v18 main_v20
  let main_cst_7 : FVec F S_ .f32 := constant S_ .f32 0xC7800000#32
  let main_v22 : FVec F S9 .f32 := broadcastInDim S9 ![] bcast_S_S9 main_cst_7
  let main_v23 : IVec S9 1 := cmpf .oge main_arg5 main_v22
  let main_cst_8 : FVec F S_ .f32 := constant S_ .f32 0x47800000#32
  let main_v24 : FVec F S9 .f32 := broadcastInDim S9 ![] bcast_S_S9 main_cst_8
  let main_v25 : IVec S9 1 := cmpf .ole main_arg5 main_v24
  let main_v26 : IVec S9 1 := andi main_v23 main_v25
  (main_v1, main_v6, main_v11, main_v16, main_v21, main_v26)

def fn {F : FTy → Type} [FloatOps F] (main_arg0 : FVec F S64x512x9 .f32) (main_arg1 : FVec F S64x512 .f32) (main_arg2 : IVec S64x512 32) (main_arg3 : FVec F S3x5 .f32) (main_arg4 : FVec F S9 .f32) (main_arg5 : FVec F S9 .f32) : IVec S64x512 1 × IVec S64x512 1 × IVec S64x512x9 1 × IVec S3x5 1 × IVec S9 1 × IVec S9 1 :=
  let main_cst : FVec F S_ .f32 := constant S_ .f32 0x00000000#32
  let main_v0 : FVec F S64x512 .f32 := broadcastInDim S64x512 ![] bcast_S_S64x512 main_cst
  let main_v1 : IVec S64x512 1 := cmpf .ogt main_arg1 main_v0
  let main_c : IVec S_ 32 := constantI S_ 32 0#32
  let main_v2 : IVec S64x512 32 := broadcastInDim S64x512 ![] bcast_S_S64x512 main_c
  let main_v3 : IVec S64x512 1 := cmpi .sge main_arg2 main_v2
  let main_c_0 : IVec S_ 32 := constantI S_ 32 9#32
  let main_v4 : IVec S64x512 32 := broadcastInDim S64x512 ![] bcast_S_S64x512 main_c_0
  let main_v5 : IVec S64x512 1 := cmpi .slt main_arg2 main_v4
  let main_v6 : IVec S64x512 1 := andi main_v3 main_v5
  let main_cst_1 : FVec F S_ .f32 := constant S_ .f32 0xC7800000#32
  let main_v7 : FVec F S64x512x9 .f32 := broadcastInDim S64x512x9 ![] bcast_S_S64x512x9 main_cst_1
  let main_v8 : IVec S64x512x9 1 := cmpf .oge main_arg0 main_v7
  let main_cst_2 : FVec F S_ .f32 := constant S_ .f32 0x47800000#32
  let main_v9 : FVec F S64x512x9 .f32 := broadcastInDim S64x512x9 ![] bcast_S_S64x512x9 main_cst_2
  let main_v10 : IVec S64x512x9 1 := cmpf .ole main_arg0 main_v9
  let main_v11 : IVec S64x512x9 1 := andi main_v8 main_v10
  let main_cst_3 : FVec F S_ .f32 := constant S_ .f32 0xC7800000#32
  let main_v12 : FVec F S3x5 .f32 := broadcastInDim S3x5 ![] bcast_S_S3x5 main_cst_3
  let main_v13 : IVec S3x5 1 := cmpf .oge main_arg3 main_v12
  let main_cst_4 : FVec F S_ .f32 := constant S_ .f32 0x47800000#32
  let main_v14 : FVec F S3x5 .f32 := broadcastInDim S3x5 ![] bcast_S_S3x5 main_cst_4
  let main_v15 : IVec S3x5 1 := cmpf .ole main_arg3 main_v14
  let main_v16 : IVec S3x5 1 := andi main_v13 main_v15
  fn_part1 (F := F) main_arg4 main_arg5 main_v1 main_v6 main_v11 main_v16
-- ==== Kernel.lean ====
abbrev S64x512x9 : Shape := ⟨3, ![64, 512, 9]⟩
abbrev S64x512 : Shape := ⟨2, ![64, 512]⟩
abbrev S3x5 : Shape := ⟨2, ![3, 5]⟩
abbrev S9 : Shape := ⟨1, ![9]⟩
abbrev S16x16 : Shape := ⟨2, ![16, 16]⟩
abbrev S15 : Shape := ⟨1, ![15]⟩
abbrev S_ : Shape := ⟨0, ![]⟩
abbrev S1 : Shape := ⟨1, ![1]⟩
abbrev S34 : Shape := ⟨1, ![34]⟩
abbrev S1x34 : Shape := ⟨2, ![1, 34]⟩
abbrev S1x64 : Shape := ⟨2, ![1, 64]⟩
abbrev S64x128x9 : Shape := ⟨3, ![64, 128, 9]⟩
abbrev S2048x64 : Shape := ⟨2, ![2048, 64]⟩
abbrev S16x64 : Shape := ⟨2, ![16, 64]⟩
abbrev S1x1 : Shape := ⟨2, ![1, 1]⟩
abbrev S16x1 : Shape := ⟨2, ![16, 1]⟩
abbrev S64x128x7 : Shape := ⟨3, ![64, 128, 7]⟩
abbrev S64x128x16 : Shape := ⟨3, ![64, 128, 16]⟩
abbrev S128x16x64 : Shape := ⟨3, ![128, 16, 64]⟩
abbrev S64x128 : Shape := ⟨2, ![64, 128]⟩
abbrev S128x64 : Shape := ⟨2, ![128, 64]⟩
abbrev S128x1x64 : Shape := ⟨3, ![128, 1, 64]⟩
abbrev S64 : Shape := ⟨1, ![64]⟩
abbrev S1x16x1 : Shape := ⟨3, ![1, 16, 1]⟩
abbrev S127x16x64 : Shape := ⟨3, ![127, 16, 64]⟩
abbrev S1x16x64 : Shape := ⟨3, ![1, 16, 64]⟩

abbrev nBuf : Space → Nat
  | .hbm => 13
  | .vmem => 11
  | .smem => 0
  | _ => 0

abbrev bufTy : (tb : Table) → Fin (tcTables nBuf tb) → BufTy
  | .hbm, ⟨0, _⟩ => ⟨S64x512x9, .f32⟩
  | .hbm, ⟨1, _⟩ => ⟨S64x512, .f32⟩
  | .hbm, ⟨2, _⟩ => ⟨S64x512, .i32⟩
  | .hbm, ⟨3, _⟩ => ⟨S3x5, .f32⟩
  | .hbm, ⟨4, _⟩ => ⟨S9, .f32⟩
  | .hbm, ⟨5, _⟩ => ⟨S9, .f32⟩
  | .hbm, ⟨6, _⟩ => ⟨S16x16, .i32⟩
  | .hbm, ⟨7, _⟩ => ⟨S15, .f32⟩
  | .hbm, ⟨8, _⟩ => ⟨S_, .f32⟩
  | .hbm, ⟨9, _⟩ => ⟨S1, .f32⟩
  | .hbm, ⟨10, _⟩ => ⟨S34, .f32⟩
  | .hbm, ⟨11, _⟩ => ⟨S1x34, .f32⟩
  | .hbm, ⟨12, _⟩ => ⟨S1x64, .f32⟩
  | .local _ .vmem, ⟨0, _⟩ => ⟨S64x128x9, .f32⟩
  | .local _ .vmem, ⟨1, _⟩ => ⟨S64x128x9, .f32⟩
  | .local _ .vmem, ⟨2, _⟩ => ⟨S64x512, .i32⟩
  | .local _ .vmem, ⟨3, _⟩ => ⟨S1x34, .f32⟩
  | .local _ .vmem, ⟨4, _⟩ => ⟨S16x16, .i32⟩
  | .local _ .vmem, ⟨5, _⟩ => ⟨S1x64, .f32⟩
  | .local _ .vmem, ⟨6, _⟩ => ⟨S2048x64, .f32⟩
  | .local _ .vmem, ⟨7, _⟩ => ⟨S16x64, .f32⟩
  | .local _ .vmem, ⟨8, _⟩ => ⟨S1x64, .i32⟩
  | .local _ .vmem, ⟨9, _⟩ => ⟨S1x64, .f32⟩
  | .local _ .vmem, ⟨10, _⟩ => ⟨S16x64, .f32⟩
  | _, _ => ⟨S64x512x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_56 : Index := 0#32
  let arg0 : BitVec 32 := BitVec.ofNat 32 (i 0).val
  let c128_i32 : BitVec 32 := 128#32
  let v241 : BitVec 32 := Scalar.muli arg0 c128_i32
  let v242 : Index := Scalar.indexCast v241
  ![0, v242.toNat]
def k0_cond4 (i : grid0.Coords) : BitVec 1 :=
  let arg0 : BitVec 32 := BitVec.ofNat 32 (i 0).val
  let c3_i32_85 : BitVec 32 := 3#32
  let v364 : BitVec 1 := Scalar.cmpi .eq arg0 c3_i32_85
  let v365 : BitVec 32 := Scalar.extui v364
  let c0_i32_87 : BitVec 32 := 0#32
  let v366 : BitVec 1 := Scalar.cmpi .ne v365 c0_i32_87
  v366

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x34 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | "mask" => some ⊥
  | _ => none
-- ==== ReferenceIdeal.lean ====
abbrev S64x512x9 : Shape := ⟨3, ![64, 512, 9]⟩
abbrev S64x512 : Shape := ⟨2, ![64, 512]⟩
abbrev S3x5 : Shape := ⟨2, ![3, 5]⟩
abbrev S9 : Shape := ⟨1, ![9]⟩
abbrev S9x9 : Shape := ⟨2, ![9, 9]⟩
abbrev S_ : Shape := ⟨0, ![]⟩
abbrev S9x9x1 : Shape := ⟨3, ![9, 9, 1]⟩
abbrev S9x9x2 : Shape := ⟨3, ![9, 9, 2]⟩
abbrev S512x64x9 : Shape := ⟨3, ![512, 64, 9]⟩
abbrev S512x64 : Shape := ⟨2, ![512, 64]⟩
abbrev S1x64x9 : Shape := ⟨3, ![1, 64, 9]⟩
abbrev S64x9 : Shape := ⟨2, ![64, 9]⟩
abbrev S1x9 : Shape := ⟨2, ![1, 9]⟩
abbrev S511x64x9 : Shape := ⟨3, ![511, 64, 9]⟩
abbrev S511x64 : Shape := ⟨2, ![511, 64]⟩
abbrev S1x64 : Shape := ⟨2, ![1, 64]⟩
abbrev S64 : Shape := ⟨1, ![64]⟩
abbrev S64x1x9 : Shape := ⟨3, ![64, 1, 9]⟩
abbrev S64x9x1 : Shape := ⟨3, ![64, 9, 1]⟩
abbrev S64x9x9 : Shape := ⟨3, ![64, 9, 9]⟩
abbrev S1x9x9 : Shape := ⟨3, ![1, 9, 9]⟩
abbrev S64x1 : Shape := ⟨2, ![64, 1]⟩
abbrev S64x512x1 : Shape := ⟨3, ![64, 512, 1]⟩
abbrev S64x512x1x1 : Shape := ⟨4, ![64, 512, 1, 1]⟩
abbrev S1 : Shape := ⟨1, ![1]⟩
abbrev S1x1x1x1 : Shape := ⟨4, ![1, 1, 1, 1]⟩
abbrev S64x511 : Shape := ⟨2, ![64, 511]⟩
abbrev S64x511x1 : Shape := ⟨3, ![64, 511, 1]⟩
abbrev S64x511x2 : Shape := ⟨3, ![64, 511, 2]⟩
abbrev S64x1x1 : Shape := ⟨3, ![64, 1, 1]⟩
abbrev S1x1x1 : Shape := ⟨3, ![1, 1, 1]⟩

abbrev nBuf : Space → Nat
  | .hbm => 184
  | .vmem => 0
  | .smem => 0
  | _ => 0

abbrev hbmTy0_0 (i : Nat) : BufTy := match i % 128 with
  | 0 => ⟨S64x512x9, .f32⟩
  | 1 => ⟨S64x512, .f32⟩
  | 2 => ⟨S64x512, .i32⟩
  | 3 => ⟨S3x5, .f32⟩
  | 4 => ⟨S9, .f32⟩
  | 5 => ⟨S9, .f32⟩
  | 6 => ⟨S9x9, .i32⟩
  | 7 => ⟨S9x9, .i32⟩
  | 8 => ⟨S_, .i32⟩
  | 9 => ⟨S9x9, .i32⟩
  | 10 => ⟨S9x9, .i1⟩
  | 11 => ⟨S_, .i32⟩
  | 12 => ⟨S9x9, .i32⟩
  | 13 => ⟨S9x9, .i32⟩
  | 14 => ⟨S9x9, .i32⟩
  | 15 => ⟨S_, .i32⟩
  | 16 => ⟨S9x9, .i32⟩
  | 17 => ⟨S9x9, .i1⟩
  | 18 => ⟨S_, .i32⟩
  | 19 => ⟨S9x9, .i32⟩
  | 20 => ⟨S9x9, .i32⟩
  | 21 => ⟨S9x9, .i32⟩
  | 22 => ⟨S9x9x1, .i32⟩
  | 23 => ⟨S9x9x1, .i32⟩
  | 24 => ⟨S9x9x2, .i32⟩
  | 25 => ⟨S9x9, .f32⟩
  | 26 => ⟨S_, .f32⟩
  | 27 => ⟨S64x512, .f32⟩
  | 28 => ⟨S64x512, .i1⟩
  | 29 => ⟨S512x64x9, .f32⟩
  | 30 => ⟨S512x64, .i1⟩
  | 31 => ⟨S1x64x9, .f32⟩
  | 32 => ⟨S64x9, .f32⟩
  | 33 => ⟨S1x9, .f32⟩
  | 34 => ⟨S64x9, .f32⟩
  | 35 => ⟨S64x9, .f32⟩
  | 36 => ⟨S511x64x9, .f32⟩
  | 37 => ⟨S511x64, .i1⟩
  | 38 => ⟨S_, .i32⟩
  | 39 => ⟨S511x64x9, .f32⟩
  | 40 => ⟨S511x64, .i1⟩
  | 41 => ⟨S9x9, .f32⟩
  | 42 => ⟨S_, .i32⟩
  | 43 => ⟨S64x9, .f32⟩
  | 44 => ⟨S_, .i32⟩
  | 45 => ⟨S_, .i1⟩
  | 46 => ⟨S_, .i32⟩
  | 47 => ⟨S_, .i32⟩
  | 48 => ⟨S1x64x9, .f32⟩
  | 49 => ⟨S64x9, .f32⟩
  | 50 => ⟨S_, .i32⟩
  | 51 => ⟨S1x64, .i1⟩
  | 52 => ⟨S64, .i1⟩
  | 53 => ⟨S64x1x9, .f32⟩
  | 54 => ⟨S64x9x1, .f32⟩
  | 55 => ⟨S64x9x9, .f32⟩
  | 56 => ⟨S64x9x9, .f32⟩
  | 57 => ⟨S64x9x9, .f32⟩
  | 58 => ⟨S1x9x9, .f32⟩
  | 59 => ⟨S64x9x9, .f32⟩
  | 60 => ⟨S64x9x9, .f32⟩
  | 61 => ⟨S64x9x9, .f32⟩
  | 62 => ⟨S_, .f32⟩
  | 63 => ⟨S64x9, .f32⟩
  | 64 => ⟨S64x9, .f32⟩
  | 65 => ⟨S64x1, .i1⟩
  | 66 => ⟨S64x9, .i1⟩
  | 67 => ⟨S64x9, .f32⟩
  | 68 => ⟨S_, .i32⟩
  | 69 => ⟨S_, .i32⟩
  | 70 => ⟨S1x9, .f32⟩
  | 71 => ⟨S64x9, .f32⟩
  | 72 => ⟨S64x9, .f32⟩
  | 73 => ⟨S64x9, .f32⟩
  | 74 => ⟨S_, .f32⟩
  | 75 => ⟨S64, .f32⟩
  | 76 => ⟨S64, .f32⟩
  | 77 => ⟨S64x512, .f32⟩
  | 78 => ⟨S64x512x1, .i32⟩
  | 79 => ⟨S_, .i32⟩
  | 80 => ⟨S64x512x1, .i32⟩
  | 81 => ⟨S64x512x1, .i1⟩
  | 82 => ⟨S_, .i32⟩
  | 83 => ⟨S64x512x1, .i32⟩
  | 84 => ⟨S64x512x1, .i32⟩
  | 85 => ⟨S64x512x1, .i32⟩
  | 86 => ⟨S64x512x1x1, .i32⟩
  | 87 => ⟨S1, .i32⟩
  | 88 => ⟨S_, .i32⟩
  | 89 => ⟨S64x512x1x1, .i32⟩
  | 90 => ⟨S64x512x1x1, .i1⟩
  | 91 => ⟨S1x1x1x1, .i32⟩
  | 92 => ⟨S64x512x1x1, .i32⟩
  | 93 => ⟨S64x512x1x1, .i1⟩
  | 94 => ⟨S64x512x1x1, .i1⟩
  | 95 => ⟨S_, .i1⟩
  | 96 => ⟨S64x512x1, .i1⟩
  | 97 => ⟨S64x512x1, .f32⟩
  | 98 => ⟨S_, .f32⟩
  | 99 => ⟨S64x512x1, .f32⟩
  | 100 => ⟨S64x512x1, .f32⟩
  | 101 => ⟨S64x512, .f32⟩
  | 102 => ⟨S64x512, .f32⟩
  | 103 => ⟨S_, .f32⟩
  | 104 => ⟨S64, .f32⟩
  | 105 => ⟨S64x511, .i32⟩
  | 106 => ⟨S64x511, .i32⟩
  | 107 => ⟨S_, .i32⟩
  | 108 => ⟨S64x511, .i32⟩
  | 109 => ⟨S64x511, .i1⟩
  | 110 => ⟨S_, .i32⟩
  | 111 => ⟨S64x511, .i32⟩
  | 112 => ⟨S64x511, .i32⟩
  | 113 => ⟨S64x511, .i32⟩
  | 114 => ⟨S_, .i32⟩
  | 115 => ⟨S64x511, .i32⟩
  | 116 => ⟨S64x511, .i1⟩
  | 117 => ⟨S_, .i32⟩
  | 118 => ⟨S64x511, .i32⟩
  | 119 => ⟨S64x511, .i32⟩
  | 120 => ⟨S64x511, .i32⟩
  | 121 => ⟨S64x511x1, .i32⟩
  | 122 => ⟨S64x511x1, .i32⟩
  | 123 => ⟨S64x511x2, .i32⟩
  | 124 => ⟨S64x511, .f32⟩
  | 125 => ⟨S64x511, .f32⟩
  | 126 => ⟨S64x511, .f32⟩
  | 127 => ⟨S_, .f32⟩
  | _ => ⟨S64x512x9, .f32⟩

abbrev hbmTy0_1 (i : Nat) : BufTy := match i % 128 with
  | 0 => ⟨S64, .f32⟩
  | 1 => ⟨S64x1, .i32⟩
  | 2 => ⟨S64, .i32⟩
  | 3 => ⟨S_, .i32⟩
  | 4 => ⟨S64, .i32⟩
  | 5 => ⟨S64, .i1⟩
  | 6 => ⟨S_, .i32⟩
  | 7 => ⟨S64, .i32⟩
  | 8 => ⟨S64, .i32⟩
  | 9 => ⟨S64, .i32⟩
  | 10 => ⟨S64x1, .i32⟩
  | 11 => ⟨S64, .f32⟩
  | 12 => ⟨S64x512, .i32⟩
  | 13 => ⟨S_, .i32⟩
  | 14 => ⟨S64, .i32⟩
  | 15 => ⟨S_, .i32⟩
  | 16 => ⟨S64, .i32⟩
  | 17 => ⟨S64, .i32⟩
  | 18 => ⟨S64x1, .i32⟩
  | 19 => ⟨S_, .i32⟩
  | 20 => ⟨S64x1, .i32⟩
  | 21 => ⟨S64x1, .i1⟩
  | 22 => ⟨S_, .i32⟩
  | 23 => ⟨S64x1, .i32⟩
  | 24 => ⟨S64x1, .i32⟩
  | 25 => ⟨S64x1, .i32⟩
  | 26 => ⟨S64x1x1, .i32⟩
  | 27 => ⟨S1, .i32⟩
  | 28 => ⟨S_, .i32⟩
  | 29 => ⟨S64x1x1, .i32⟩
  | 30 => ⟨S64x1x1, .i1⟩
  | 31 => ⟨S1x1x1, .i32⟩
  | 32 => ⟨S64x1x1, .i32⟩
  | 33 => ⟨S64x1x1, .i1⟩
  | 34 => ⟨S64x1x1, .i1⟩
  | 35 => ⟨S_, .i1⟩
  | 36 => ⟨S64x1, .i1⟩
  | 37 => ⟨S64x1, .i32⟩
  | 38 => ⟨S_, .i32⟩
  | 39 => ⟨S64x1, .i32⟩
  | 40 => ⟨S64x1, .i32⟩
  | 41 => ⟨S64, .i32⟩
  | 42 => ⟨S_, .i32⟩
  | 43 => ⟨S64, .i32⟩
  | 44 => ⟨S64, .i1⟩
  | 45 => ⟨S_, .i32⟩
  | 46 => ⟨S64, .i32⟩
  | 47 => ⟨S64, .i32⟩
  | 48 => ⟨S64, .i32⟩
  | 49 => ⟨S64x1, .i32⟩
  | 50 => ⟨S64, .f32⟩
  | 51 => ⟨S64, .f32⟩
  | 52 => ⟨S64, .f32⟩
  | 53 => ⟨S64, .f32⟩
  | 54 => ⟨S64, .f32⟩
  | 55 => ⟨S1x64, .f32⟩
  | _ => ⟨S64x512x9, .f32⟩

abbrev hbmTy (i : Nat) : BufTy := match i / 128 with
  | 0 => hbmTy0_0 i
  | 1 => hbmTy0_1 i
  | _ => ⟨S64x512x9, .f32⟩

abbrev bufTy : (tb : Table) → Fin (tcTables nBuf tb) → BufTy
  | .hbm, ⟨i, _⟩ => hbmTy i
  | _, _ => ⟨S64x512x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_c_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_v6 : Ref sig .tc := ⟨.hbm, 17, rfl⟩
abbrev main_c_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_while0c_c_23 : Ref sig .tc := ⟨.hbm, 44, rfl⟩
abbrev main_while0c_v85 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_v0 : Ref sig .tc := ⟨.hbm, 48, rfl⟩
abbrev main_while0b_v85 : Ref sig .tc := ⟨.hbm, 49, rfl⟩
abbrev main_while0b_call1_c : Ref sig .tc := ⟨.hbm, 50, rfl⟩
abbrev main_while0b_call1_v0 : Ref sig .tc := ⟨.hbm, 51, rfl⟩
abbrev main_while0b_v86 : Ref sig .tc := ⟨.hbm, 52, rfl⟩
abbrev main_while0b_v87 : Ref sig .tc := ⟨.hbm, 53, rfl⟩
abbrev main_while0b_v88 : Ref sig .tc := ⟨.hbm, 54, rfl⟩
abbrev main_while0b_v89 : Ref sig .tc := ⟨.hbm, 55, rfl⟩
abbrev main_while0b_v90 : Ref sig .tc := ⟨.hbm, 56, rfl⟩
abbrev main_while0b_v91 : Ref sig .tc := ⟨.hbm, 57, rfl⟩
abbrev main_while0b_v92 : Ref sig .tc := ⟨.hbm, 58, rfl⟩
abbrev main_while0b_v93 : Ref sig .tc := ⟨.hbm, 59, rfl⟩
abbrev main_while0b_v94 : Ref sig .tc := ⟨.hbm, 60, rfl⟩
abbrev main_while0b_v95 : Ref sig .tc := ⟨.hbm, 61, rfl⟩
abbrev main_while0b_cst_23 : Ref sig .tc := ⟨.hbm, 62, rfl⟩
abbrev main_while0b_v96 : Ref sig .tc := ⟨.hbm, 63, rfl⟩
abbrev main_while0b_v97 : Ref sig .tc := ⟨.hbm, 64, rfl⟩
abbrev main_while0b_v98 : Ref sig .tc := ⟨.hbm, 65, rfl⟩
abbrev main_while0b_call2_v0 : Ref sig .tc := ⟨.hbm, 66, rfl⟩
abbrev main_while0b_v99 : Ref sig .tc := ⟨.hbm, 67, rfl⟩
abbrev main_while0b_c_24 : Ref sig .tc := ⟨.hbm, 68, rfl⟩
abbrev main_while0b_v100 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_6 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_7 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_c_8 : Ref sig .tc := ⟨.hbm, 107, rfl⟩
abbrev main_v40 : Ref sig .tc := ⟨.hbm, 108, rfl⟩
abbrev main_v41 : Ref sig .tc := ⟨.hbm, 109, rfl⟩
abbrev main_c_9 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_c_10 : Ref sig .tc := ⟨.hbm, 114, rfl⟩
abbrev main_v45 : Ref sig .tc := ⟨.hbm, 115, rfl⟩
abbrev main_v46 : Ref sig .tc := ⟨.hbm, 116, rfl⟩
abbrev main_c_11 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_12 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_c_13 : Ref sig .tc := ⟨.hbm, 131, rfl⟩
abbrev main_v59 : Ref sig .tc := ⟨.hbm, 132, rfl⟩
abbrev main_v60 : Ref sig .tc := ⟨.hbm, 133, rfl⟩
abbrev main_c_14 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_c_15 : Ref sig .tc := ⟨.hbm, 141, rfl⟩
abbrev main_v67 : Ref sig .tc := ⟨.hbm, 142, rfl⟩
abbrev main_c_16 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_c_4 : Ref sig .tc := ⟨.hbm, 166, rfl⟩
abbrev main_call4_v14 : Ref sig .tc := ⟨.hbm, 167, rfl⟩
abbrev main_v71 : Ref sig .tc := ⟨.hbm, 168, rfl⟩
abbrev main_v72 : Ref sig .tc := ⟨.hbm, 169, rfl⟩
abbrev main_c_17 : Ref sig .tc := ⟨.hbm, 170, rfl⟩
abbrev main_v73 : Ref sig .tc := ⟨.hbm, 171, rfl⟩
abbrev main_v74 : Ref sig .tc := ⟨.hbm, 172, rfl⟩
abbrev main_c_18 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩

abbrev nD : Nat := 1
abbrev τ : Topo := Topo.v7x

variable {F : FTy → Type} [FloatOps F]

abbrev main_while0_count : Scf.Loop 32 := ⟨0#32, 511#32, 1#32⟩
-- ==== Proof.Roll.lean ====
/- The forward recursion of the kernel written as a loop: one step, one rescaling, and the blocks of four steps. -/
module

public import proofs.«01_k».proof.Proof.Gen.KernelIdeal.Skeleton
public import Idealize.ShloMosaic.Lib.Pipeline.FrameBody
public import Idealize.ShloMosaic.Lib.VecWindow
public import Idealize.ShloMosaic.Init

@[expose] public section

noncomputable section

namespace Cert.Crf

open Idealize.ShloMosaic Cert.KernelIdeal Cert.KernelIdeal.Gen

variable {F : FTy → Type} [FloatOps F] [Named F]

theorem slices_col (k : ℕ) : S16x16.Slices (![0, k % 16] : Fin 2 → ℕ) S16x1 := by
  refine ⟨rfl, fun a => ?_⟩
  fin_cases a
  · show 0 + 16 ≤ 16; omega
  · show k % 16 + 1 ≤ 16; omega

theorem slices_row (k : ℕ) : S16x64.Slices (![k % 16, 0] : Fin 2 → ℕ) S1x64 := by
  refine ⟨rfl, fun a => ?_⟩
  fin_cases a
  · show k % 16 + 1 ≤ 16; omega
  · show 0 + 64 ≤ 64; omega

/-- The table of transitions, transposed: entry by entry the element of `tb` that `ix` names. -/
def transV (ix : IVec S16x16 32) (tb : ℕ → Vec F S1x1 .f32) : FVec F S16x16 .f32 :=
  Nat.rec (broadcast S16x16 (Scalar.ofBits .f32 0x00000000#32))
    (fun k q => select (cmpi .eq ix (broadcast S16x16 (BitVec.ofNat 32 k))) (broadcast S16x16 (extractAt ![0, 0] (tb k) inpos_S1x1_p0_0)) q) 16

/-- A column that holds nine entries of `tb` from place `a`, and minus infinity below them. -/
def edgeV (tb : ℕ → Vec F S1x1 .f32) (a : ℕ) : FVec F S16x1 .f32 :=
  Nat.rec (broadcast S16x1 (Named.named κ "mask" 0xF149F2CA#32))
    (fun t q => select (cmpi .eq (iota .tc S16x1 32 [0] iota_S16x1_d0_w32) (broadcast S16x1 (BitVec.ofNat 32 t)))
      (broadcast S16x1 (extractAt ![0, 0] (tb (a + t)) inpos_S1x1_p0_0)) q) 9

/-- Which (step, tag, sample) the tags pick. -/
def hitV (tg : Vec F S64x128 .i32) : IVec S128x16x64 1 :=
  k0_pay868 (iota .tc S128x16x64 32 [1] iota_S128x16x64_d1_w32) (k0_pay867 (F := F) tg)

/-- For each (step, tag, sample) the transition from the sample's tag at the step to the tag. -/
def rowsV (T : FVec F S16x16 .f32) (tg : Vec F S64x128 .i32) : FVec F S128x16x64 .f32 :=
  Nat.rec (broadcast S128x16x64 (Scalar.ofBits .f32 0x00000000#32))
    (fun k q => select (broadcastTo S128x16x64 (shapeCast S128x1x64 (cmpi .eq (k0_pay866 (F := F) tg) (broadcast S128x1x64 (BitVec.ofNat 32 k))) shapeCasts_S128x1x64_S128x1x64) broadcasts_S128x1x64_S128x16x64)
      (broadcastTo S128x16x64 (shapeCast S1x16x1 (shapeCast S1x16x1 (extractStridedSlice S16x1 ![0, k % 16] T (slices_col k)) shapeCasts_S16x1_S1x16x1) shapeCasts_S1x16x1_S1x16x1) broadcasts_S1x16x1_S128x16x64) q) 9

/-- The features that the tags pick, summed. -/
def featS (x : Vec F S64x128x9 .f32) (tg : Vec F S64x128 .i32) : FVec F S64 .f32 :=
  multiReduction .add [0, 1] S64 (select (hitV (F := F) tg) (k0_pay850 x) (broadcast S128x16x64 (Scalar.ofBits .f32 0x00000000#32))) 0x00000000#32 reduces_S128x16x64_S64 (.inl rfl) rfl

/-- The transitions that the tags of a block pick, summed; `prow` is the row of transitions into the block. -/
def transS (T : FVec F S16x16 .f32) (tg : Vec F S64x128 .i32) (prow : FVec F S16x64 .f32) : FVec F S64 .f32 :=
  addf (multiReduction .add [0, 1] S64 (select (extractStridedSlice S127x16x64 ![1, 0, 0] (hitV (F := F) tg) slices_S128x16x64_o1_0_0_S127x16x64)
      (extractStridedSlice S127x16x64 ![0, 0, 0] (rowsV T tg) slices_S128x16x64_o0_0_0_S127x16x64)
      (broadcast S127x16x64 (Scalar.ofBits .f32 0x00000000#32))) 0x00000000#32 reduces_S127x16x64_S64 (.inl rfl) rfl)
    (multiReduction .add [0] S64 (select (shapeCast S16x64 (extractStridedSlice S1x16x64 ![0, 0, 0] (hitV (F := F) tg) slices_S128x16x64_o0_0_0_S1x16x64) shapeCasts_S1x16x64_S16x64)
      prow (broadcast S16x64 (Scalar.ofBits .f32 0x00000000#32))) 0x00000000#32 reduces_S16x64_S64 (.inl rfl) rfl)

/-- The row of transitions out of the block. -/
def prowV (T : FVec F S16x16 .f32) (tg : Vec F S64x128 .i32) : FVec F S16x64 .f32 :=
  shapeCast S16x64 (shapeCast S16x64 (extractStridedSlice S1x16x64 ![127, 0, 0] (rowsV T tg) slices_S128x16x64_o127_0_0_S1x16x64) shapeCasts_S1x16x64_S16x64) shapeCasts_S16x64_S16x64

/-- The score of the given tags, a block further. -/
def goldV (g : FVec F S1x64 .f32) (T : FVec F S16x16 .f32) (x : Vec F S64x128x9 .f32) (tg : Vec F S64x128 .i32) (prow : FVec F S16x64 .f32) : FVec F S1x64 .f32 :=
  k0_pay2 (featS x tg) (transS T tg prow) g

/-- One column of the exponentiated transitions, on all 64 lanes. -/
def colV (T : FVec F S16x16 .f32) (k : ℕ) : FVec F S16x64 .f32 :=
  mulf (broadcastTo S16x64 (extractStridedSlice S16x1 ![0, k % 16] (exp T) (slices_col k)) broadcasts_S16x1_S16x64)
    (broadcastTo S16x64 (broadcast S1x64 (Scalar.ofBits .f32 0x3F800000#32)) broadcasts_S1x64_S16x64)

/-- One column times the row of `p` that it meets. -/
def termV (T : FVec F S16x16 .f32) (p : FVec F S16x64 .f32) (k : ℕ) : FVec F S16x64 .f32 :=
  mulf (colV T k) (broadcastTo S16x64 (extractStridedSlice S1x64 ![k % 16, 0] p (slices_row k)) broadcasts_S1x64_S16x64)

/-- One step of the forward recursion: the nine columns of the exponentiated transitions against the nine rows of `p`, times the step's exponentiated features. -/
def stepV (T : FVec F S16x16 .f32) (e p : FVec F S16x64 .f32) : FVec F S16x64 .f32 :=
  mulf (addf (addf (addf (addf (termV T p 0) (termV T p 1)) (addf (termV T p 2) (termV T p 3)))
    (addf (addf (termV T p 4) (termV T p 5)) (addf (termV T p 6) (termV T p 7)))) (termV T p 8)) e

/-- The biased exponent of the largest row, lane by lane. -/
def expoV (p : FVec F S16x64 .f32) : IVec S1x64 32 :=
  addi (fptosi 32 (floor (mulf (log (shapeCast S1x64 (multiReduction .maximumf [0] S64 p 0xFF800000#32 reduces_S16x64_S64 (.inl rfl) rfl) shapeCasts_S64_S1x64))
    (broadcast S1x64 (Named.named κ "inv_ln2" 0x3FB8AA3B#32))))) (broadcast S1x64 127#32)

/-- The rescaled array: every lane times two to minus its exponent. -/
def scaleV (p : FVec F S16x64 .f32) : FVec F S16x64 .f32 :=
  mulf p (broadcastTo S16x64 (exp (mulf (sitofp .f32 (subi (broadcast S1x64 127#32) (expoV p))) (broadcast S1x64 (Named.named κ "ln2" 0x3F317218#32)))) broadcasts_S1x64_S16x64)

/-- Four steps, at the rows `e a … e (a+3)`. -/
def fourV (T : FVec F S16x16 .f32) (e : ℕ → FVec F S16x64 .f32) (a : ℕ) (p : FVec F S16x64 .f32) : FVec F S16x64 .f32 :=
  stepV T (e (a + 3)) (stepV T (e (a + 2)) (stepV T (e (a + 1)) (stepV T (e a) p)))

/-- `n` blocks of four steps and a rescaling, from row `a`. -/
def rollP (T : FVec F S16x16 .f32) (e : ℕ → FVec F S16x64 .f32) (a : ℕ) (p : FVec F S16x64 .f32) (n : ℕ) : FVec F S16x64 .f32 :=
  Nat.rec p (fun k q => scaleV (fourV T e (a + 4 * k) q)) n

/-- The exponent that `n` such blocks collect, on top of `z`. -/
def rollE (T : FVec F S16x16 .f32) (e : ℕ → FVec F S16x64 .f32) (a : ℕ) (p : FVec F S16x64 .f32) (z : IVec S1x64 32) (n : ℕ) : IVec S1x64 32 :=
  Nat.rec z (fun k y => addi y (subi (expoV (fourV T e (a + 4 * k) (rollP T e a p k))) (broadcast S1x64 127#32))) n

/-- The first block's array before its blocks of four: the start, and three steps. -/
def headV (T : FVec F S16x16 .f32) (st : FVec F S16x1 .f32) (e : ℕ → FVec F S16x64 .f32) : FVec F S16x64 .f32 :=
  stepV T (e 3) (stepV T (e 2) (stepV T (e 1) (mulf (e 0) (broadcastTo S16x64 (exp st) broadcasts_S16x1_S16x64))))

/-! ## Loads -/

theorem inb_row (s : ℕ) : ∀ a, (![16 * (s % 128), 0] : Fin 2 → ℕ) a + S16x64.size a ≤ S2048x64.size a := by
  intro a; fin_cases a
  · show 16 * (s % 128) + 16 ≤ 2048; omega
  · show 0 + 64 ≤ 64; omega

theorem inb_tb (k : ℕ) : ∀ a, (![0, k % 34] : Fin 2 → ℕ) a + S1x1.size a ≤ S1x34.size a := by
  intro a; fin_cases a
  · show 0 + 1 ≤ 1; omega
  · show k % 34 + 1 ≤ 34; omega

/-- Row block `s` of the exponentiated features, read back through a view. -/
def efLd (v : View sig .tc .vmem S2048x64 .f32) (L : List (View.Piece (Elt F) S2048x64 .f32)) (s : ℕ) : FVec F S16x64 .f32 :=
  v.readCov L (Rect.unit (s := S2048x64) ![16 * (s % 128), 0] S16x64.size (inb_row s)).toLoadRect

/-- Entry `k` of the table of parameters, loaded. -/
def tbLd (m : Memref sig .tc .vmem S1x34 .f32) (h : m.IsWhole) (x : Vec F S1x34 .f32) (k : ℕ) : Vec F S1x1 .f32 :=
  m.view.readAt (Elt F) (Rect.unit (s := S1x34) ![0, k % 34] S1x1.size (inb_tb k)).toLoadRect (h.unread x)

/-- The table of indices, loaded. -/
def ixLd (m : Memref sig .tc .vmem S16x16 .i32) (h : m.IsWhole) (x : Vec F S16x16 .i32) : Vec F S16x16 .i32 :=
  m.view.readAt (Elt F) (Rect.unit (s := S16x16) ![0, 0] S16x16.size inb_S16x16_S16x16_0_0).toLoadRect (h.unread x)

/-- The block's features, loaded. -/
def xLd (m : Memref sig .tc .vmem S64x128x9 .f32) (h : m.IsWhole) (x : Vec F S64x128x9 .f32) : Vec F S64x128x9 .f32 :=
  m.view.readAt (Elt F) (Rect.unit (s := S64x128x9) ![0, 0, 0] S64x128x9.size inb_S64x128x9_S64x128x9_0_0_0).toLoadRect (h.unread x)

/-- The block's tags, loaded. -/
def tgLd (i : grid0.Coords) (m : Memref sig .tc .vmem S64x512 .i32) (h : m.IsWhole) (x : Vec F S64x512 .i32) : Vec F S64x128 .i32 :=
  m.view.readAt (Elt F) (Rect.unit (s := S64x512) (k0_off1 i) S64x128.size (k0_off1_inb i)).toLoadRect (h.unread x)

/-- A 16x64 array, loaded. -/
def pLd (m : Memref sig .tc .vmem S16x64 .f32) (h : m.IsWhole) (x : Vec F S16x64 .f32) : Vec F S16x64 .f32 :=
  m.view.readAt (Elt F) (Rect.unit (s := S16x64) ![0, 0] S16x64.size inb_S16x64_S16x64_0_0).toLoadRect (h.unread x)

/-- A row, loaded. -/
def vLd {e : EltTy} (m : Memref sig .tc .vmem S1x64 e) (h : m.IsWhole) (x : Vec F S1x64 e) : Vec F S1x64 e :=
  m.view.readAt (Elt F) (Rect.unit (s := S1x64) ![0, 0] S1x64.size inb_S1x64_S1x64_0_0).toLoadRect (h.unread x)

/-- The block's exponentiated features as they lie in scratch: one store. -/
def efSt (x : Vec F S64x128x9 .f32) : List (View.Piece (Elt F) S2048x64 .f32) :=
  [⟨Rect.unit ![0, 0] S2048x64.size inb_S2048x64_S2048x64_0_0, k0_pay852 (k0_pay851 x)⟩]

/-- One store of a whole 16x64 array. -/
def pSt (w : FVec F S16x64 .f32) : View.Piece (Elt F) S16x64 .f32 := ⟨Rect.unit ![0, 0] S16x64.size inb_S16x64_S16x64_0_0, w⟩

/-- One store of a whole row. -/
def vSt {e : EltTy} (w : Vec F S1x64 e) : View.Piece (Elt F) S1x64 e := ⟨Rect.unit ![0, 0] S1x64.size inb_S1x64_S1x64_0_0, w⟩

end Cert.Crf
-- ==== Proof.Math.lean ====
/- The forward recursion over the reals: its definition, its bounds, and the gold score cut in blocks. -/
module

public import Mathlib.Analysis.SpecialFunctions.Log.Basic
public import Mathlib.Analysis.SpecialFunctions.Exp
public import Mathlib.Algebra.BigOperators.Intervals

@[expose] public section

noncomputable section

namespace Cert.Crf

open Finset

/-- The weight of all tag sequences that end in tag `j` at step `s`: `τ k j` is the score of the transition from `k` to
`j`, `φ s j` the score of tag `j` at step `s`, and `σ j` the weight of starting in `j`. -/
def fwd (τ : ℕ → ℕ → ℝ) (φ : ℕ → ℕ → ℝ) (σ : ℕ → ℝ) : ℕ → ℕ → ℝ
  | 0, j => Real.exp (φ 0 j) * σ j
  | s + 1, j => (∑ k ∈ range 9, Real.exp (τ k j) * fwd τ φ σ s k) * Real.exp (φ (s + 1) j)

/-- The scores are at most `M` in size; only the padded rows `9 … 15` may have transitions of very low score. -/
structure Bounded (M : ℝ) (τ : ℕ → ℕ → ℝ) (φ : ℕ → ℕ → ℝ) (σ : ℕ → ℝ) : Prop where
  φ_le : ∀ s j, φ s j ≤ M
  le_φ : ∀ s j, -M ≤ φ s j
  τ_le : ∀ k j, τ k j ≤ M
  le_τ : ∀ k j, k < 9 → j < 9 → -M ≤ τ k j
  σ_le : ∀ j, σ j ≤ Real.exp M
  le_σ : ∀ j, j < 9 → Real.exp (-M) ≤ σ j
  σ_nonneg : ∀ j, 0 ≤ σ j

variable {M : ℝ} {τ : ℕ → ℕ → ℝ} {φ : ℕ → ℕ → ℝ} {σ : ℕ → ℝ}

theorem fwd_nonneg (h : Bounded M τ φ σ) (s j : ℕ) : 0 ≤ fwd τ φ σ s j := by
  induction s generalizing j with
  | zero => exact mul_nonneg (Real.exp_pos _).le (h.σ_nonneg j)
  | succ s ih => exact mul_nonneg (sum_nonneg fun k _ => mul_nonneg (Real.exp_pos _).le (ih k)) (Real.exp_pos _).le

theorem le_fwd (h : Bounded M τ φ σ) (s j : ℕ) (hj : j < 9) : Real.exp (-(2 * M * (s + 1))) ≤ fwd τ φ σ s j := by
  induction s generalizing j with
  | zero =>
    calc Real.exp (-(2 * M * ((0 : ℕ) + 1))) = Real.exp (-M) * Real.exp (-M) := by rw [← Real.exp_add]; congr 1; push_cast; ring
      _ ≤ _ := mul_le_mul (Real.exp_le_exp.2 (h.le_φ 0 j)) (h.le_σ j hj) (Real.exp_pos _).le (Real.exp_pos _).le
  | succ s ih =>
    have h1 : Real.exp (-M) * Real.exp (-(2 * M * (s + 1))) ≤ ∑ k ∈ range 9, Real.exp (τ k j) * fwd τ φ σ s k :=
      calc _ ≤ Real.exp (τ 0 j) * fwd τ φ σ s 0 :=
            mul_le_mul (Real.exp_le_exp.2 (h.le_τ 0 j (by norm_num) hj)) (ih 0 (by norm_num)) (Real.exp_pos _).le (Real.exp_pos _).le
        _ ≤ _ := single_le_sum (f := fun k => Real.exp (τ k j) * fwd τ φ σ s k)
            (fun k _ => mul_nonneg (Real.exp_pos _).le (fwd_nonneg h s k)) (mem_range.2 (by norm_num))
    calc Real.exp (-(2 * M * ((s + 1 : ℕ) + 1))) = (Real.exp (-M) * Real.exp (-(2 * M * (s + 1)))) * Real.exp (-M) := by
            rw [← Real.exp_add, ← Real.exp_add]; congr 1; push_cast; ring
      _ ≤ _ := mul_le_mul h1 (Real.exp_le_exp.2 (h.le_φ _ j)) (Real.exp_pos _).le
            ((mul_pos (Real.exp_pos _) (Real.exp_pos _)).le.trans h1)

theorem nine_le_exp : (9 : ℝ) ≤ Real.exp 4 := by
  have h : (2 : ℝ) ≤ Real.exp 1 := by have := Real.add_one_le_exp (1 : ℝ); linarith
  calc (9 : ℝ) ≤ 2 ^ 4 := by norm_num
    _ ≤ Real.exp 1 ^ 4 := by gcongr
    _ = Real.exp 4 := by rw [← Real.exp_nat_mul]; norm_num

theorem half_le_log_two : (1 / 2 : ℝ) ≤ Real.log 2 := by
  have := Real.one_sub_inv_le_log_of_pos (x := 2) (by norm_num); linarith

theorem fwd_le (h : Bounded M τ φ σ) (s j : ℕ) : fwd τ φ σ s j ≤ Real.exp ((2 * M + 4) * (s + 1)) := by
  induction s generalizing j with
  | zero =>
    calc Real.exp (φ 0 j) * σ j ≤ Real.exp M * Real.exp M :=
          mul_le_mul (Real.exp_le_exp.2 (h.φ_le 0 j)) (h.σ_le j) (h.σ_nonneg j) (Real.exp_pos _).le
      _ = Real.exp (M + M) := (Real.exp_add _ _).symm
      _ ≤ _ := Real.exp_le_exp.2 (by push_cast; linarith)
  | succ s ih =>
    have h1 : ∑ k ∈ range 9, Real.exp (τ k j) * fwd τ φ σ s k ≤ Real.exp 4 * (Real.exp M * Real.exp ((2 * M + 4) * (s + 1))) :=
      calc _ ≤ ∑ k ∈ range 9, Real.exp M * Real.exp ((2 * M + 4) * (s + 1)) :=
            sum_le_sum fun k _ => mul_le_mul (Real.exp_le_exp.2 (h.τ_le k j)) (ih k) (fwd_nonneg h s k) (Real.exp_pos _).le
        _ = 9 * (Real.exp M * Real.exp ((2 * M + 4) * (s + 1))) := by simp
        _ ≤ _ := mul_le_mul_of_nonneg_right nine_le_exp (mul_pos (Real.exp_pos _) (Real.exp_pos _)).le
    calc _ ≤ (Real.exp 4 * (Real.exp M * Real.exp ((2 * M + 4) * (s + 1)))) * Real.exp M :=
          mul_le_mul h1 (Real.exp_le_exp.2 (h.φ_le _ j)) (Real.exp_pos _).le (by positivity)
      _ = _ := by rw [← Real.exp_add, ← Real.exp_add, ← Real.exp_add]; congr 1; push_cast; ring

theorem fwd_pos (h : Bounded M τ φ σ) (s j : ℕ) (hj : j < 9) : 0 < fwd τ φ σ s j := (Real.exp_pos _).trans_le (le_fwd h s j hj)

/-- The largest weight of a step has a binary exponent of moderate size. -/
theorem expo_bound (h : Bounded 65536 τ φ σ) (s : ℕ) (hs : s < 512) (i : ℕ) (hi : fwd τ φ σ s 0 ≤ fwd τ φ σ s i) :
    0 < fwd τ φ σ s i ∧ |⌊Real.log (fwd τ φ σ s i) * (Real.log 2)⁻¹⌋| ≤ (150000000 : ℤ) := by
  have hp : 0 < fwd τ φ σ s i := (fwd_pos h s 0 (by norm_num)).trans_le hi
  have hs' : (s : ℝ) + 1 ≤ 512 := by exact_mod_cast hs
  have hs0 : (0 : ℝ) ≤ s := by positivity
  have h2 := half_le_log_two
  have l2 : 0 < Real.log 2 := by linarith
  have hlo : -(67200000 : ℝ) ≤ Real.log (fwd τ φ σ s i) := by
    have := Real.log_le_log (Real.exp_pos _) ((le_fwd h s 0 (by norm_num)).trans hi)
    rw [Real.log_exp] at this
    nlinarith
  have hhi : Real.log (fwd τ φ σ s i) ≤ 67200000 := by
    have := Real.log_le_log hp (fwd_le h s i)
    rw [Real.log_exp] at this
    nlinarith
  refine ⟨hp, abs_le.2 ⟨?_, ?_⟩⟩
  · rw [Int.le_floor, ← div_eq_mul_inv, le_div_iff₀ l2]
    push_cast; nlinarith
  · have : (⌊Real.log (fwd τ φ σ s i) * (Real.log 2)⁻¹⌋ : ℝ) ≤ 150000000 := by
      refine (Int.floor_le _).trans ?_
      rw [← div_eq_mul_inv, div_le_iff₀ l2]; nlinarith
    exact_mod_cast this

/-- The score of the tags `t` up to step `n`, without the stop. -/
def gold (τ : ℕ → ℕ → ℝ) (φ : ℕ → ℕ → ℝ) (st : ℕ → ℝ) (t : ℕ → ℕ) (n : ℕ) : ℝ :=
  ∑ s ∈ range n, φ s (t s) + (st (t 0) + ∑ s ∈ range (n - 1), τ (t s) (t (s + 1)))

theorem gold_first (τ : ℕ → ℕ → ℝ) (φ : ℕ → ℕ → ℝ) (st : ℕ → ℝ) (t : ℕ → ℕ) :
    0 + ∑ s ∈ range 128, φ (0 + s) (t (0 + s)) + (∑ s ∈ range 127, τ (t (0 + s)) (t (0 + s + 1)) + st (t 0)) = gold τ φ st t 128 := by
  simp only [zero_add, gold]; ring

theorem gold_next (τ : ℕ → ℕ → ℝ) (φ : ℕ → ℕ → ℝ) (st : ℕ → ℝ) (t : ℕ → ℕ) (o : ℕ) (ho : 0 < o) :
    gold τ φ st t o + ∑ s ∈ range 128, φ (o + s) (t (o + s))
      + (∑ s ∈ range 127, τ (t (o + s)) (t (o + s + 1)) + τ (t (o - 1)) (t o)) = gold τ φ st t (o + 128) := by
  obtain ⟨q, rfl⟩ : ∃ q, o = q + 1 := ⟨o - 1, by omega⟩
  have e1 : ∑ s ∈ range (q + 1 + 128), φ s (t s) = ∑ s ∈ range (q + 1), φ s (t s) + ∑ s ∈ range 128, φ (q + 1 + s) (t (q + 1 + s)) :=
    sum_range_add _ _ _
  have e2 : ∑ s ∈ range (q + 1 + 127), τ (t s) (t (s + 1)) = ∑ s ∈ range (q + 1), τ (t s) (t (s + 1)) + ∑ s ∈ range 127, τ (t (q + 1 + s)) (t (q + 1 + s + 1)) :=
    sum_range_add _ _ _
  have e3 : q + 1 + 128 - 1 = q + 1 + 127 := by omega
  simp only [gold, e1, e3, e2, Nat.add_sub_cancel]
  rw [sum_range_succ (fun s => τ (t s) (t (s + 1))) q]
  ring

end Cert.Crf
-- ==== Proof.Eval.lean ====
/- The kernel's forward recursion, lane by lane, over the reals: steps, rescalings, and the exponents they collect. -/
module

public import proofs.«01_k».proof.Proof.Roll
public import proofs.«01_k».proof.Proof.Math
public import Idealize.ShloMosaic.Lib.Pointwise

@[expose] public section

noncomputable section

namespace Cert.Crf

open Idealize Idealize.ShloMosaic Cert.KernelIdeal Cert.KernelIdeal.Gen

theorem named_ln2 : Named.named (F := Ideal) κ "ln2" (φ := .f32) 0x3F317218#32 = ((Real.log 2 : ℝ) : EReal) :=
  IdealRules.named_const.ideal_named_scalar κ "ln2" _ _ rfl

theorem named_inv_ln2 : Named.named (F := Ideal) κ "inv_ln2" (φ := .f32) 0x3FB8AA3B#32 = (((Real.log 2)⁻¹ : ℝ) : EReal) :=
  IdealRules.named_const.ideal_named_scalar κ "inv_ln2" _ _ rfl

theorem named_mask : Named.named (F := Ideal) κ "mask" (φ := .f32) 0xF149F2CA#32 = ⊥ :=
  IdealRules.named_const.ideal_named_scalar κ "mask" _ _ rfl

theorem ofBits_neg_inf : Ideal.ofBits .f32 4286578688#32 = ⊥ := by
  simp [Ideal.ofBits, Ideal.ieee]

theorem Ideal.log_pos_coe {r : ℝ} (h : 0 < r) : Ideal.log (r : EReal) = (Real.log r : EReal) := by
  rw [Ideal.log_coe, if_neg (not_le.2 h)]

/-- Lane by lane the array `p` is `A`, scaled by two to minus `E`. -/
def Inv (A : Fin 64 → ℕ → ℝ) (p : FVec Ideal S16x64 .f32) (E : Fin 64 → ℤ) : Prop :=
  ∀ (j : Fin 16) (b : Fin 64), p (ix2 j b) = ((A b j * Real.exp (-(E b) * Real.log 2) : ℝ) : EReal)

variable {τ : ℕ → ℕ → ℝ} {φ : Fin 64 → ℕ → ℕ → ℝ} {σ : ℕ → ℝ} {T : FVec Ideal S16x16 .f32} {p : FVec Ideal S16x64 .f32} {E : Fin 64 → ℤ}

/-- One step of the kernel is one step of the recursion. -/
theorem inv_step (hT : ∀ j k : Fin 16, T (ix2 j k) = (τ k j : EReal)) {e : FVec Ideal S16x64 .f32} {s : ℕ}
    (he : ∀ (j : Fin 16) (b : Fin 64), e (ix2 j b) = (Real.exp (φ b (s + 1) j) : EReal))
    (h : Inv (fun b => fwd τ (φ b) σ s) p E) : Inv (fun b => fwd τ (φ b) σ (s + 1)) (stepV T e p) E := by
  intro j b
  pointwise [stepV, termV, colV]
  simp only [hT, he, h _ b, Ideal.exp_coe, ← EReal.coe_mul, ← EReal.coe_add]
  congr 1
  simp only [fwd, Finset.sum_range_succ, Finset.sum_range_zero]
  simp only [show ((0 : Fin 16) : ℕ) = 0 from rfl, show ((1 : Fin 16) : ℕ) = 1 from rfl, show ((2 : Fin 16) : ℕ) = 2 from rfl,
    show ((3 : Fin 16) : ℕ) = 3 from rfl, show ((4 : Fin 16) : ℕ) = 4 from rfl, show ((5 : Fin 16) : ℕ) = 5 from rfl,
    show ((6 : Fin 16) : ℕ) = 6 from rfl, show ((7 : Fin 16) : ℕ) = 7 from rfl, show ((8 : Fin 16) : ℕ) = 8 from rfl]
  ring

/-- The largest row of a lane is one of its rows. -/
theorem max_row {f : Fin 16 → EReal} {A : Fin 16 → ℝ} (h : ∀ j, f j = (A j : EReal)) :
    ∃ i : Fin 16, Finset.fold max ⊥ f Finset.univ = (A i : EReal) ∧ ∀ j, A j ≤ A i := by
  obtain ⟨i, -, hi⟩ := Finset.exists_mem_eq_sup (Finset.univ : Finset (Fin 16)) Finset.univ_nonempty f
  refine ⟨i, (hi.trans (h i)), fun j => ?_⟩
  have := Finset.le_sup (f := f) (Finset.mem_univ j)
  rw [hi, h, h] at this
  exact EReal.coe_le_coe_iff.1 this

/-- The conversion to an integer of a real that is one. -/
theorem fptosi_int {k : ℤ} (h : |k| ≤ (300000000 : ℤ)) :
    (FloatOps.fptosi (F := Ideal) (φ := .f32) 32 (((k : ℝ) : EReal)) : BitVec 32) = BitVec.ofInt 32 k := by
  obtain ⟨h1, h2⟩ := abs_le.1 h
  show BitVec.ofInt 32 (Ideal.toIntClamped _ _ _) = _
  rw [Ideal.toIntClamped_coe, Int.floor_intCast, Int.ceil_intCast, ite_self]
  congr 1
  norm_num
  omega

theorem toInt_ofInt_of_abs {k : ℤ} (h : |k| ≤ (300000000 : ℤ)) : (BitVec.ofInt 32 k).toInt = k := by
  obtain ⟨h1, h2⟩ := abs_le.1 h
  rw [BitVec.toInt_ofInt]
  exact Int.bmod_eq_of_le (by norm_num; omega) (by norm_num; omega)

/-- The exponent that a rescaling takes out, and the exponent that is out after it. -/
theorem expo_spec (hb : ∀ b, Bounded 65536 τ (φ b) σ) {s : ℕ} (hs : s < 512) (h : Inv (fun b => fwd τ (φ b) σ s) p E) (b : Fin 64) :
    ∃ L : ℤ, |L| ≤ 150000000 ∧ ((|E b| ≤ 150000000) → expoV p (ix2 0 b) = BitVec.ofInt 32 (L - E b) + 127#32) := by
  obtain ⟨i, hi, hmax⟩ := max_row (fun j => h j b)
  have h0 : fwd τ (φ b) σ s 0 ≤ fwd τ (φ b) σ s i := le_of_mul_le_mul_right (hmax 0) (Real.exp_pos _)
  obtain ⟨hp, hL⟩ := expo_bound (hb b) s hs i h0
  refine ⟨_, hL, fun hE => ?_⟩
  have l2 : Real.log 2 ≠ 0 := by have := half_le_log_two; linarith
  pointwise [expoV]
  rw [ofBits_neg_inf, hi, named_inv_ln2, Ideal.log_pos_coe (mul_pos hp (Real.exp_pos _)), ← EReal.coe_mul, Ideal.liftRound_coe,
    Real.log_mul hp.ne' (Real.exp_pos _).ne', Real.log_exp, add_mul, neg_mul, neg_mul, mul_assoc, mul_inv_cancel₀ l2, mul_one,
    ← sub_eq_add_neg, Int.floor_sub_intCast, fptosi_int]
  · rfl
  · have := abs_sub (⌊Real.log (fwd τ (φ b) σ s i) * (Real.log 2)⁻¹⌋) (E b)
    omega

/-- A rescaling keeps the array's meaning, and its exponent goes on top of the exponents taken out before. -/
theorem inv_scale (hb : ∀ b, Bounded 65536 τ (φ b) σ) {s : ℕ} (hs : s < 512) (h : Inv (fun b => fwd τ (φ b) σ s) p E)
    (hE : ∀ b, |E b| ≤ 150000000) :
    ∃ L : Fin 64 → ℤ, (∀ b, |L b| ≤ 150000000) ∧ Inv (fun b => fwd τ (φ b) σ s) (scaleV p) L
      ∧ ∀ b, expoV p (ix2 0 b) - 127#32 = BitVec.ofInt 32 (L b - E b) := by
  choose L hL hx using fun b => expo_spec hb hs h b
  refine ⟨L, hL, fun j b => ?_, fun b => ?_⟩
  · pointwise [scaleV]
    have e : IntOp.subi 127#32 (expoV p (ix2 0 b)) = BitVec.ofInt 32 (-(L b - E b)) := by
      rw [hx b (hE b), BitVec.ofInt_neg]
      show 127#32 - (_ + 127#32) = _
      generalize BitVec.ofInt 32 (L b - E b) = x
      bv_omega
    have hd : |-(L b - E b)| ≤ 300000000 := by
      have h1 := hL b; have h2 := hE b
      rw [abs_neg]
      have := abs_sub (L b) (E b); omega
    have e2 : (FloatOps.sitofp .f32 (IntOp.subi 127#32 (expoV p (ix2 0 b))) : Ideal .f32) = (((-(L b - E b) : ℤ) : ℝ) : EReal) := by
      rw [e]
      show (((BitVec.ofInt 32 (-(L b - E b))).toInt : ℝ) : EReal) = _
      rw [toInt_ofInt_of_abs hd]
    rw [e2, named_ln2, h j b, ← EReal.coe_mul, Ideal.exp_coe, ← EReal.coe_mul, mul_assoc, ← Real.exp_add]
    congr 3
    push_cast; ring
  · rw [hx b (hE b)]; exact BitVec.add_sub_cancel _ _

/-- The array after `n` blocks of four steps and a rescaling, and the exponents collected. -/
theorem inv_roll (hT : ∀ j k : Fin 16, T (ix2 j k) = (τ k j : EReal)) (hb : ∀ b, Bounded 65536 τ (φ b) σ) {e : ℕ → FVec Ideal S16x64 .f32} {o : ℕ}
    (he : ∀ s < 128, ∀ (j : Fin 16) (b : Fin 64), e s (ix2 j b) = (Real.exp (φ b (o + s) j) : EReal)) (ho : o + 128 ≤ 512)
    {a s : ℕ} (hs : s + 1 = o + a) (h : Inv (fun b => fwd τ (φ b) σ s) p E) (hE : ∀ b, |E b| ≤ 150000000)
    {z : IVec S1x64 32} (hz : ∀ b : Fin 64, z (ix2 0 b) = BitVec.ofInt 32 (E b)) (n : ℕ) (hn : a + 4 * n ≤ 128) :
    ∃ L : Fin 64 → ℤ, (∀ b, |L b| ≤ 150000000) ∧ Inv (fun b => fwd τ (φ b) σ (s + 4 * n)) (rollP T e a p n) L
      ∧ ∀ b : Fin 64, rollE T e a p z n (ix2 0 b) = BitVec.ofInt 32 (L b) := by
  induction n with
  | zero => exact ⟨E, hE, h, hz⟩
  | succ n ih =>
    obtain ⟨L, hL, hP, hR⟩ := ih (by omega)
    have st : ∀ r, r < 128 → ∀ q u, u + 1 = o + r → Inv (fun b => fwd τ (φ b) σ u) q L →
        Inv (fun b => fwd τ (φ b) σ (u + 1)) (stepV T (e r) q) L := fun r hr q u hu hq =>
      inv_step hT (fun j b => by rw [he r hr, hu]) hq
    have h4 : Inv (fun b => fwd τ (φ b) σ (s + 4 * n + 1 + 1 + 1 + 1)) (fourV T e (a + 4 * n) (rollP T e a p n)) L :=
      st _ (by omega) _ _ (by omega) (st _ (by omega) _ _ (by omega) (st _ (by omega) _ _ (by omega) (st _ (by omega) _ _ (by omega) hP)))
    obtain ⟨L', hL', hP', hx⟩ := inv_scale hb (by omega) h4 hL
    refine ⟨L', hL', hP', fun b => ?_⟩
    show rollE T e a p z n (ix2 0 b) + (expoV (fourV T e (a + 4 * n) (rollP T e a p n)) (ix2 0 b) - 127#32) = _
    rw [hx, hR, ← BitVec.ofInt_add]
    congr 1; ring

/-- The start: the first three steps, with nothing taken out. -/
theorem inv_head (hT : ∀ j k : Fin 16, T (ix2 j k) = (τ k j : EReal)) {e : ℕ → FVec Ideal S16x64 .f32}
    (he : ∀ s < 128, ∀ (j : Fin 16) (b : Fin 64), e s (ix2 j b) = (Real.exp (φ b (0 + s) j) : EReal))
    {st : FVec Ideal S16x1 .f32} (hst : ∀ j : Fin 16, Ideal.exp (st (ix2 j 0)) = (σ j : EReal)) :
    Inv (fun b => fwd τ (φ b) σ 3) (headV T st e) (fun _ => 0) := by
  have st0 : ∀ r, r + 1 < 128 → ∀ q, Inv (fun b => fwd τ (φ b) σ r) q (fun _ => 0) →
      Inv (fun b => fwd τ (φ b) σ (r + 1)) (stepV T (e (r + 1)) q) (fun _ => 0) := fun r hr q hq =>
    inv_step hT (fun j b => by rw [he (r + 1) hr, Nat.zero_add]) hq
  refine st0 2 (by norm_num) _ (st0 1 (by norm_num) _ (st0 0 (by norm_num) _ fun j b => ?_))
  pointwise
  rw [he 0 (by norm_num), hst, ← EReal.coe_mul]
  simp [fwd]

end Cert.Crf
-- ==== Proof.Gold.lean ====
/- The kernel's score of the given tags: one-hot sums read as the entries that the tags pick. -/
module

public import proofs.«01_k».proof.Proof.Roll
public import proofs.«01_k».proof.Proof.Math
public import Idealize.ShloMosaic.Lib.Pointwise

@[expose] public section

noncomputable section

namespace Cert.Crf

open Idealize Idealize.ShloMosaic Cert.KernelIdeal Cert.KernelIdeal.Gen

/-- A sum over the first two axes of three. -/
theorem sum_front {n0 n1 n2 : ℕ} (h : (⟨3, ![n0, n1, n2]⟩ : Shape).Reduces [0, 1] ⟨1, ![n2]⟩) (v : (⟨3, ![n0, n1, n2]⟩ : Shape).Idx → EReal) (b : Fin n2) :
    Ideal.reduceAdd h v (ix1 b) = ∑ s : Fin n0, ∑ j : Fin n1, v (ix3 s j b) := by
  have fib : ∀ i : (⟨3, ![n0, n1, n2]⟩ : Shape).Idx, h.drop i = ix1 b ↔ ∃ k : Fin n0 × Fin n1, ix3 k.1 k.2 b = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext a
      apply Fin.ext
      match a with
      | ⟨0, _⟩ => rfl
  refine (Finset.sum_filter_eq_sum_of_fiber _ (fun k : Fin n0 × Fin n1 => ix3 k.1 k.2 b)
    (fun _ _ e => Prod.ext (congrFun e 0) (congrFun e 1)) fib v).trans ?_
  simp only [Fintype.sum_prod_type]

/-- A sum of reals is a real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem cmpi_eq_ofNat {a b : ℕ} (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h; simp [IntOp.cmpi]
  · rw [if_neg h]
    show BitVec.ofBool (BitVec.ofNat 32 a == BitVec.ofNat 32 b) = 0#1
    rw [beq_eq_false_iff_ne.2 (fun e => h (this.1 e))]; rfl

/-- A sum that a one-hot mask reduces to one term. -/
theorem sum_hit {n t : ℕ} (ht : t < n) (f : Fin n → EReal) :
    ∑ j : Fin n, Scalar.select (if (j : ℕ) = t then 1#1 else 0#1) (f j) 0 = f ⟨t, ht⟩ := by
  rw [Finset.sum_eq_single (⟨t, ht⟩ : Fin n)]
  · rw [if_pos rfl]; rfl
  · intro j _ hj
    rw [if_neg (fun e => hj (Fin.ext e))]; rfl
  · intro h; exact absurd (Finset.mem_univ _) h

/-- What a chain of selections by equality with `0, 1, …` picks. -/
theorem pick_chain {α : Type} (z : α) (f : ℕ → α) {v : ℕ} (hv : v < 2 ^ 32) (n : ℕ) (hn : n ≤ 2 ^ 32) :
    (Nat.rec z (fun k q => Scalar.select (IntOp.cmpi .eq (BitVec.ofNat 32 v) (BitVec.ofNat 32 k)) (f k) q) n : α)
      = if v < n then f v else z := by
  induction n with
  | zero => simp
  | succ n ih =>
    show Scalar.select (IntOp.cmpi .eq (BitVec.ofNat 32 v) (BitVec.ofNat 32 n)) (f n) _ = _
    rw [cmpi_eq_ofNat hv (by omega), ih (by omega)]
    by_cases h : v = n
    · subst h; rw [if_pos rfl, if_pos (Nat.lt_succ_self _)]; rfl
    · rw [if_neg h]
      show (if v < n then f v else z) = _
      have : v < n ↔ v < n + 1 := by omega
      simp only [this]

/-- The transposed table at a place is the entry that the index there names. -/
theorem transV_apply (ix : IVec S16x16 32) (tb : ℕ → Vec Ideal S1x1 .f32) (j k : Fin 16) {v : ℕ} (hv : v < 16) (h : ix (ix2 j k) = BitVec.ofNat 32 v) :
    transV ix tb (ix2 j k) = tb v (ix2 0 0) := by
  have gen : ∀ n ≤ 16, (Nat.rec (broadcast S16x16 (Scalar.ofBits .f32 0x00000000#32))
    (fun k q => select (cmpi .eq ix (broadcast S16x16 (BitVec.ofNat 32 k))) (broadcast S16x16 (extractAt ![0, 0] (tb k) inpos_S1x1_p0_0)) q) n : FVec Ideal S16x16 .f32) (ix2 j k)
      = Nat.rec (Scalar.ofBits .f32 0x00000000#32 : Ideal .f32) (fun k q => Scalar.select (IntOp.cmpi .eq (BitVec.ofNat 32 v) (BitVec.ofNat 32 k)) (tb k (ix2 0 0)) q) n := by
    intro n hn
    induction n with
    | zero => rfl
    | succ n ih =>
      show Scalar.select (IntOp.cmpi .eq (ix (ix2 j k)) (BitVec.ofNat 32 n)) (extractAt ![0, 0] (tb n) inpos_S1x1_p0_0) _ = _
      rw [ih (by omega), h]
      congr 1
      pointwise
  unfold transV
  rw [gen 16 le_rfl, pick_chain _ (fun k => tb k (ix2 0 0)) (by omega) _ (by norm_num), if_pos hv]

/-- A column of nine entries, and minus infinity below them. -/
theorem edgeV_apply (tb : ℕ → Vec Ideal S1x1 .f32) (a : ℕ) (j : Fin 16) :
    edgeV tb a (ix2 j 0) = if (j : ℕ) < 9 then tb (a + j) (ix2 0 0) else Named.named (F := Ideal) κ "mask" (φ := .f32) 0xF149F2CA#32 := by
  have gen : ∀ n ≤ 9, (Nat.rec (broadcast S16x1 (Named.named κ "mask" 0xF149F2CA#32))
    (fun t q => select (cmpi .eq (iota .tc S16x1 32 [0] iota_S16x1_d0_w32) (broadcast S16x1 (BitVec.ofNat 32 t)))
      (broadcast S16x1 (extractAt ![0, 0] (tb (a + t)) inpos_S1x1_p0_0)) q) n : FVec Ideal S16x1 .f32) (ix2 j 0)
      = Nat.rec (Named.named κ "mask" (φ := .f32) 0xF149F2CA#32 : Ideal .f32) (fun k q => Scalar.select (IntOp.cmpi .eq (BitVec.ofNat 32 (j : ℕ)) (BitVec.ofNat 32 k)) (tb (a + k) (ix2 0 0)) q) n := by
    intro n hn
    induction n with
    | zero => rfl
    | succ n ih =>
      show Scalar.select (IntOp.cmpi .eq (iota .tc S16x1 32 [0] iota_S16x1_d0_w32 (ix2 j 0)) (BitVec.ofNat 32 n)) (extractAt ![0, 0] (tb (a + n)) inpos_S1x1_p0_0) _ = _
      rw [ih (by omega)]
      congr 1
      · pointwise
      · pointwise
  unfold edgeV
  rw [gen 9 le_rfl, pick_chain _ (fun k => tb (a + k) (ix2 0 0)) (by omega) _ (by norm_num)]

variable {τ : ℕ → ℕ → ℝ} {φ : Fin 64 → ℕ → ℕ → ℝ} {t : Fin 64 → ℕ → ℕ} {T : FVec Ideal S16x16 .f32}
  {x : Vec Ideal S64x128x9 .f32} {tg : Vec Ideal S64x128 .i32} {o : ℕ}

theorem hitV_apply (ht : ∀ b s, t b s < 9) (htg : ∀ (b : Fin 64) (s : Fin 128), tg (ix2 b s) = BitVec.ofNat 32 (t b (o + s))) (s : Fin 128) (j : Fin 16) (b : Fin 64) :
    hitV (F := Ideal) tg (ix3 s j b) = if (j : ℕ) = t b (o + s) then 1#1 else 0#1 := by
  pointwise [hitV, k0_pay868, k0_pay867, k0_pay866]
  rw [htg, cmpi_eq_ofNat (by omega) (by have := ht b (o + s); omega)]

theorem rowsV_apply (ht : ∀ b s, t b s < 9) (htg : ∀ (b : Fin 64) (s : Fin 128), tg (ix2 b s) = BitVec.ofNat 32 (t b (o + s)))
    (hT : ∀ j k : Fin 16, T (ix2 j k) = (τ k j : EReal)) (s : Fin 128) (j : Fin 16) (b : Fin 64) :
    rowsV T tg (ix3 s j b) = (τ (t b (o + s)) j : EReal) := by
  have gen : ∀ n ≤ 9, (Nat.rec (broadcast S128x16x64 (Scalar.ofBits .f32 0x00000000#32))
    (fun k q => select (broadcastTo S128x16x64 (shapeCast S128x1x64 (cmpi .eq (k0_pay866 (F := Ideal) tg) (broadcast S128x1x64 (BitVec.ofNat 32 k))) shapeCasts_S128x1x64_S128x1x64) broadcasts_S128x1x64_S128x16x64)
      (broadcastTo S128x16x64 (shapeCast S1x16x1 (shapeCast S1x16x1 (extractStridedSlice S16x1 ![0, k % 16] T (slices_col k)) shapeCasts_S16x1_S1x16x1) shapeCasts_S1x16x1_S1x16x1) broadcasts_S1x16x1_S128x16x64) q) n : FVec Ideal S128x16x64 .f32) (ix3 s j b)
      = Nat.rec (Scalar.ofBits .f32 0x00000000#32 : Ideal .f32) (fun k q => Scalar.select (IntOp.cmpi .eq (BitVec.ofNat 32 (t b (o + s))) (BitVec.ofNat 32 k)) (τ (k % 16) j : EReal) q) n := by
    intro n hn
    induction n with
    | zero => rfl
    | succ n ih =>
      show Scalar.select (broadcastTo S128x16x64 (shapeCast S128x1x64 (cmpi .eq (k0_pay866 (F := Ideal) tg) (broadcast S128x1x64 (BitVec.ofNat 32 n))) shapeCasts_S128x1x64_S128x1x64) broadcasts_S128x1x64_S128x16x64 (ix3 s j b))
        (broadcastTo S128x16x64 (shapeCast S1x16x1 (shapeCast S1x16x1 (extractStridedSlice S16x1 ![0, n % 16] T (slices_col n)) shapeCasts_S16x1_S1x16x1) shapeCasts_S1x16x1_S1x16x1) broadcasts_S1x16x1_S128x16x64 (ix3 s j b)) _ = _
      rw [ih (by omega)]
      congr 1
      · pointwise [k0_pay866]
        rw [htg]
      · pointwise
        rw [show (τ (n % 16) j : EReal) = τ ((⟨n % 16, Nat.mod_lt _ (by norm_num)⟩ : Fin 16) : ℕ) j from rfl, ← hT]
  unfold rowsV
  have h9 := ht b (o + s)
  rw [gen 9 le_rfl, pick_chain _ (fun k => (τ (k % 16) j : EReal)) (by omega) _ (by norm_num), if_pos h9, Nat.mod_eq_of_lt (by omega)]

theorem featS_apply (ht : ∀ b s, t b s < 9) (htg : ∀ (b : Fin 64) (s : Fin 128), tg (ix2 b s) = BitVec.ofNat 32 (t b (o + s)))
    (hx : ∀ (b : Fin 64) (s : Fin 128) (j : Fin 9), x (ix3 b s j) = (φ b (o + s) j : EReal)) (b : Fin 64) :
    featS x tg (ix1 b) = ((∑ s ∈ Finset.range 128, φ b (o + s) (t b (o + s)) : ℝ) : EReal) := by
  unfold featS
  pointwise
  rw [sum_front, ← Fin.sum_univ_eq_sum_range (fun s => φ b (o + s) (t b (o + s))), ← coe_sum]
  refine Finset.sum_congr rfl fun s _ => ?_
  have h9 := ht b (o + s)
  have e : ∀ j : Fin 16, select (hitV (F := Ideal) tg) (k0_pay850 x) (broadcast S128x16x64 0) (ix3 s j b)
      = Scalar.select (if (j : ℕ) = t b (o + s) then 1#1 else 0#1) (k0_pay850 x (ix3 s j b)) 0 := fun j => by
    rw [← hitV_apply ht htg s j b]; rfl
  refine (Finset.sum_congr rfl fun j _ => e j).trans ?_
  rw [sum_hit (show t b (o + s) < 16 by omega)]
  pointwise [k0_pay850]
  rw [dif_pos h9, hx]

theorem transS_apply (ht : ∀ b s, t b s < 9) (htg : ∀ (b : Fin 64) (s : Fin 128), tg (ix2 b s) = BitVec.ofNat 32 (t b (o + s)))
    (hT : ∀ j k : Fin 16, T (ix2 j k) = (τ k j : EReal)) {prow : FVec Ideal S16x64 .f32} {ρ : Fin 64 → ℝ} (b : Fin 64)
    (hp : prow (ix2 ⟨t b o, (ht b o).trans (by norm_num)⟩ b) = (ρ b : EReal)) :
    transS T tg prow (ix1 b) = ((∑ s ∈ Finset.range 127, τ (t b (o + s)) (t b (o + s + 1)) + ρ b : ℝ) : EReal) := by
  unfold transS
  pointwise
  rw [sum_front, ← Fin.sum_univ_eq_sum_range (fun s => τ (t b (o + s)) (t b (o + s + 1))), EReal.coe_add, ← coe_sum]
  congr 1
  · refine Finset.sum_congr rfl fun s _ => ?_
    have e : ∀ j : Fin 16, select (extractStridedSlice S127x16x64 ![1, 0, 0] (hitV (F := Ideal) tg) slices_S128x16x64_o1_0_0_S127x16x64)
          (extractStridedSlice S127x16x64 ![0, 0, 0] (rowsV T tg) slices_S128x16x64_o0_0_0_S127x16x64) (broadcast S127x16x64 0) (ix3 s j b)
        = Scalar.select (if (j : ℕ) = t b (o + (s + 1)) then 1#1 else 0#1) (τ (t b (o + s)) j : EReal) 0 := fun j => by
      pointwise
      rw [hitV_apply ht htg, rowsV_apply ht htg hT]
      simp only [Nat.add_comm 1, Nat.zero_add]
    refine (Finset.sum_congr rfl fun j _ => e j).trans ?_
    rw [sum_hit (show t b (o + (s + 1)) < 16 by have := ht b (o + (s + 1)); omega) (fun j : Fin 16 => (τ (t b (o + s)) j : EReal))]
    rfl
  · have e : ∀ j : Fin 16, Scalar.select (hitV (F := Ideal) tg (ix3 0 j b)) (prow (ix2 j b)) 0
        = Scalar.select (if (j : ℕ) = t b o then 1#1 else 0#1) (prow (ix2 j b)) 0 := fun j => by
      rw [hitV_apply ht htg]; rfl
    refine (Finset.sum_congr rfl fun j _ => e j).trans ?_
    rw [sum_hit (show t b o < 16 by have := ht b o; omega) (fun j : Fin 16 => prow (ix2 j b)), hp]

/-- The row of transitions out of a block: from the block's last tag. -/
theorem prowV_apply (ht : ∀ b s, t b s < 9) (htg : ∀ (b : Fin 64) (s : Fin 128), tg (ix2 b s) = BitVec.ofNat 32 (t b (o + s)))
    (hT : ∀ j k : Fin 16, T (ix2 j k) = (τ k j : EReal)) (j : Fin 16) (b : Fin 64) :
    prowV T tg (ix2 j b) = (τ (t b (o + 127)) j : EReal) := by
  unfold prowV
  pointwise
  rw [rowsV_apply ht htg hT]
  rfl

/-- The score after a block, from the score before it. -/
theorem goldV_apply (ht : ∀ b s, t b s < 9) (htg : ∀ (b : Fin 64) (s : Fin 128), tg (ix2 b s) = BitVec.ofNat 32 (t b (o + s)))
    (hT : ∀ j k : Fin 16, T (ix2 j k) = (τ k j : EReal))
    (hx : ∀ (b : Fin 64) (s : Fin 128) (j : Fin 9), x (ix3 b s j) = (φ b (o + s) j : EReal)) {g : FVec Ideal S1x64 .f32} {γ ρ : Fin 64 → ℝ}
    {prow : FVec Ideal S16x64 .f32} (b : Fin 64) (hg : g (ix2 0 b) = (γ b : EReal))
    (hp : prow (ix2 ⟨t b o, (ht b o).trans (by norm_num)⟩ b) = (ρ b : EReal)) :
    goldV g T x tg prow (ix2 0 b) = ((γ b + ∑ s ∈ Finset.range 128, φ b (o + s) (t b (o + s))
      + (∑ s ∈ Finset.range 127, τ (t b (o + s)) (t b (o + s + 1)) + ρ b) : ℝ) : EReal) := by
  unfold goldV
  pointwise [k0_pay2]
  rw [hg, featS_apply ht htg hx, transS_apply ht htg hT b hp, ← EReal.coe_add, ← EReal.coe_add]

end Cert.Crf
-- ==== Proof.Last.lean ====
/- The kernel's last words: the logarithm of the total weight, less the score of the given tags. -/
module

public import proofs.«01_k».proof.Proof.Eval
public import proofs.«01_k».proof.Proof.Gold

@[expose] public section

noncomputable section

namespace Cert.Crf

open Idealize Idealize.ShloMosaic Cert.KernelIdeal Cert.KernelIdeal.Gen

/-- The loss of one sample. -/
def loss (τ : ℕ → ℕ → ℝ) (φ : ℕ → ℕ → ℝ) (st sp : ℕ → ℝ) (t : ℕ → ℕ) : ℝ :=
  Real.log (∑ j ∈ Finset.range 9, fwd τ φ (fun j => if j < 9 then Real.exp (st j) else 0) 511 j * Real.exp (sp j))
    - (gold τ φ st t 512 + sp (t 511))

variable {τ : ℕ → ℕ → ℝ} {φ : Fin 64 → ℕ → ℕ → ℝ} {t : Fin 64 → ℕ → ℕ} {st sp : ℕ → ℝ}

theorem sum_sixteen (f : Fin 16 → EReal) (h : ∀ j : Fin 16, 9 ≤ (j : ℕ) → f j = 0) (g : ℕ → ℝ) (hg : ∀ j : Fin 16, (j : ℕ) < 9 → f j = (g j : EReal)) :
    ∑ j : Fin 16, f j = ((∑ j ∈ Finset.range 9, g j : ℝ) : EReal) := by
  have e : ∀ j : Fin 16, f j = ((if (j : ℕ) < 9 then g j else 0 : ℝ) : EReal) := fun j => by
    by_cases hj : (j : ℕ) < 9
    · rw [if_pos hj, hg j hj]
    · rw [if_neg hj, h j (by omega)]; rfl
  rw [Finset.sum_congr rfl fun j _ => e j, coe_sum, Fin.sum_univ_eq_sum_range (fun j => if j < 9 then g j else 0) 16]
  congr 1
  simp [Finset.sum_range_succ]

theorem last_apply {tg : Vec Ideal S64x128 .i32} {SP : FVec Ideal S16x1 .f32} {p : FVec Ideal S16x64 .f32} {E : Fin 64 → ℤ}
    (hb : ∀ b, Bounded 65536 τ (φ b) (fun j => if j < 9 then Real.exp (st j) else 0))
    (ht : ∀ b s, t b s < 9) (htg : ∀ (b : Fin 64) (s : Fin 128), tg (ix2 b s) = BitVec.ofNat 32 (t b (384 + s)))
    (hSP : ∀ j : Fin 16, SP (ix2 j 0) = if (j : ℕ) < 9 then (sp j : EReal) else ⊥)
    (hp : Inv (fun b => fwd τ (φ b) (fun j => if j < 9 then Real.exp (st j) else 0) 511) p E) (hE : ∀ b, |E b| ≤ 150000000)
    {z : IVec S1x64 32} (hz : ∀ b : Fin 64, z (ix2 0 b) = BitVec.ofInt 32 (E b))
    {g : FVec Ideal S1x64 .f32} (hg : ∀ b : Fin 64, g (ix2 0 b) = (gold τ (φ b) st (t b) 512 : EReal)) (b : Fin 64) :
    k0_pay5 SP (hitV (F := Ideal) tg) p z g (ix2 0 b) = (loss τ (φ b) st sp (t b) : EReal) := by
  pointwise [k0_pay5]
  set A := fwd τ (φ b) (fun j => if j < 9 then Real.exp (st j) else 0) 511 with hA
  have l2 : 0 < Real.log 2 := by have := half_le_log_two; linarith
  have z1 : ∑ j : Fin 16, p (ix2 j b) * Ideal.exp (SP (ix2 j 0))
      = (((∑ j ∈ Finset.range 9, A j * Real.exp (sp j)) * Real.exp (-(E b) * Real.log 2) : ℝ) : EReal) := by
    rw [Finset.sum_mul]
    refine sum_sixteen _ (fun j hj => ?_) (fun j => A j * Real.exp (sp j) * Real.exp (-(E b) * Real.log 2)) (fun j hj => ?_)
    · rw [hSP, if_neg (by omega), Ideal.exp_bot, mul_zero]
    · rw [hSP, if_pos hj, Ideal.exp_coe, hp j b, ← EReal.coe_mul]
      congr 1; ring
  have pos : 0 < ∑ j ∈ Finset.range 9, A j * Real.exp (sp j) :=
    Finset.sum_pos (fun j hj => mul_pos (fwd_pos (hb b) 511 j (Finset.mem_range.1 hj)) (Real.exp_pos _)) ⟨0, by simp⟩
  have s1 : ∑ j : Fin 16, Scalar.select (hitV (F := Ideal) tg (ix3 127 j b)) (SP (ix2 j 0)) 0 = (sp (t b 511) : EReal) := by
    have e : ∀ j : Fin 16, Scalar.select (hitV (F := Ideal) tg (ix3 127 j b)) (SP (ix2 j 0)) 0
        = Scalar.select (if (j : ℕ) = t b 511 then 1#1 else 0#1) (SP (ix2 j 0)) 0 := fun j => by
      rw [hitV_apply ht htg]; rfl
    have h9 := ht b 511
    rw [Finset.sum_congr rfl fun j _ => e j, sum_hit (show t b 511 < 16 by omega) (fun j : Fin 16 => SP (ix2 j 0)), hSP, if_pos h9]
  have e1 : (FloatOps.sitofp .f32 (z (ix2 0 b)) : Ideal .f32) = ((E b : ℝ) : EReal) := by
    rw [hz]
    show (((BitVec.ofInt 32 (E b)).toInt : ℝ) : EReal) = _
    rw [toInt_ofInt_of_abs ((hE b).trans (by norm_num))]
  rw [z1, s1, e1, named_ln2, hg, Ideal.log_pos_coe (mul_pos pos (Real.exp_pos _)), Real.log_mul pos.ne' (Real.exp_pos _).ne', Real.log_exp,
    ← EReal.coe_mul, ← EReal.coe_add, ← EReal.coe_add, ← EReal.coe_sub]
  congr 1
  simp only [loss, ← hA]
  ring

end Cert.Crf
-- ==== Proof.Load.lean ====
/- What a block loads, and what it makes of it: the state that one block hands to the next. -/
module

public import proofs.«01_k».proof.Proof.Last

@[expose] public section

noncomputable section

namespace Cert.Crf

open Idealize Idealize.ShloMosaic Cert.KernelIdeal Cert.KernelIdeal.Gen

/-- The weight of starting in tag `j`; the padded rows have none. -/
def startW (st : ℕ → ℝ) : ℕ → ℝ := fun j => if j < 9 then Real.exp (st j) else 0

/-- The problem's numbers, apart from how they are stored. -/
structure Scores where
  τ : ℕ → ℕ → ℝ
  φ : Fin 64 → ℕ → ℕ → ℝ
  st : ℕ → ℝ
  sp : ℕ → ℝ
  t : Fin 64 → ℕ → ℕ

/-- The numbers are within the bounds, and the tags are labels. -/
structure Scores.Good (S : Scores) : Prop where
  bnd : ∀ b, Bounded 65536 S.τ (S.φ b) (startW S.st)
  pad : ∀ b s j, 9 ≤ j → S.φ b s j = 0
  tag : ∀ b s, S.t b s < 9

/-- The four input blocks of the grid point at step `o` hold the numbers `S`. -/
structure Inp (S : Scores) (o : ℕ) (x0 : Vec Ideal S64x128x9 .f32) (x1 : Vec Ideal S64x512 .i32) (x2 : Vec Ideal S1x34 .f32)
    (x3 : Vec Ideal S16x16 .i32) : Prop where
  feat : ∀ (b : Fin 64) (s : Fin 128) (j : Fin 9), x0 (ix3 b s j) = (S.φ b (o + s) j : EReal)
  tags : ∀ (b : Fin 64) (s : Fin 512), x1 (ix2 b s) = BitVec.ofNat 32 (S.t b s)
  trans : ∀ j k : Fin 16, ∃ v : Fin 16, x3 (ix2 j k) = BitVec.ofNat 32 v ∧ x2 (ix2 0 (v.castLE (by norm_num))) = (S.τ k j : EReal)
  start : ∀ j : Fin 9, x2 (ix2 0 ⟨16 + j, by omega⟩) = (S.st j : EReal)
  stop : ∀ j : Fin 9, x2 (ix2 0 ⟨25 + j, by omega⟩) = (S.sp j : EReal)

/-- What the scratch holds when the steps before `o` are done. -/
structure State (S : Scores) (o : ℕ) (p : FVec Ideal S16x64 .f32) (z : IVec S1x64 32) (g : FVec Ideal S1x64 .f32) (r : FVec Ideal S16x64 .f32) : Prop where
  sums : ∃ E : Fin 64 → ℤ, (∀ b, |E b| ≤ 150000000) ∧ Inv (fun b => fwd S.τ (S.φ b) (startW S.st) (o - 1)) p E
    ∧ ∀ b : Fin 64, z (ix2 0 b) = BitVec.ofInt 32 (E b)
  score : ∀ b : Fin 64, g (ix2 0 b) = (gold S.τ (S.φ b) S.st (S.t b) o : EReal)
  row : ∀ (j : Fin 16) (b : Fin 64), r (ix2 j b) = (S.τ (S.t b (o - 1)) j : EReal)

section Loads

theorem ixLd_eq (m : Memref sig .tc .vmem S16x16 .i32) (h : m.IsWhole) (x : Vec Ideal S16x16 .i32) : ixLd (F := Ideal) m h x = x :=
  (View.readAt_full m.view _ inb_S16x16_S16x16_0_0).trans (h.read_unread x)

theorem xLd_eq (m : Memref sig .tc .vmem S64x128x9 .f32) (h : m.IsWhole) (x : Vec Ideal S64x128x9 .f32) : xLd m h x = x :=
  (View.readAt_full m.view _ inb_S64x128x9_S64x128x9_0_0_0).trans (h.read_unread x)

theorem pLd_eq (m : Memref sig .tc .vmem S16x64 .f32) (h : m.IsWhole) (x : Vec Ideal S16x64 .f32) : pLd m h x = x :=
  (View.readAt_full m.view _ inb_S16x64_S16x64_0_0).trans (h.read_unread x)

theorem vLd_eq {e : EltTy} (m : Memref sig .tc .vmem S1x64 e) (h : m.IsWhole) (x : Vec Ideal S1x64 e) : vLd (F := Ideal) m h x = x :=
  (View.readAt_full m.view _ inb_S1x64_S1x64_0_0).trans (h.read_unread x)

theorem tbLd_apply (m : Memref sig .tc .vmem S1x34 .f32) (h : m.IsWhole) (x : Vec Ideal S1x34 .f32) (k : ℕ) (hk : k < 34) :
    tbLd m h x k (ix2 0 0) = x (ix2 0 ⟨k, hk⟩) := by
  unfold tbLd
  rw [View.readAt_unit m.view _ (inb_tb k) rfl (inb_tb k), h.read_unread]
  refine congrArg x (funext fun a => Fin.ext ?_)
  match a with
  | ⟨0, _⟩ => rfl
  | ⟨1, _⟩ => show k % 34 + 0 = k; omega

theorem tgLd_apply (i : grid0.Coords) (m : Memref sig .tc .vmem S64x512 .i32) (h : m.IsWhole) (x : Vec Ideal S64x512 .i32) (b : Fin 64) (s : Fin 128) :
    tgLd (F := Ideal) i m h x (ix2 b s) = x (ix2 b ⟨128 * (i 0).val + s, by have : (i 0).val < 4 := (i 0).isLt; omega⟩) := by
  unfold tgLd
  rw [View.readAt_unit m.view _ (k0_off1_inb i) (k0_off1_eq i) (k0_off1_eq i ▸ k0_off1_inb i), h.read_unread]
  refine congrArg x (funext fun a => Fin.ext ?_)
  match a with
  | ⟨0, _⟩ => show 0 + 1 * b.val = b.val; omega
  | ⟨1, _⟩ => show 128 * (i 0).val + 1 * s.val = 128 * (i 0).val + s.val; omega

theorem efLd_apply (v : View sig .tc .vmem S2048x64 .f32) (x : Vec Ideal S64x128x9 .f32) (s : ℕ) (hs : s < 128) (j : Fin 16) (b : Fin 64) :
    efLd v (efSt x) s (ix2 j b) = Ideal.exp (if h : (j : ℕ) < 9 then x (ix3 b ⟨s, hs⟩ ⟨j, h⟩) else 0) := by
  have e : efLd v (efSt x) s (ix2 j b) = k0_pay852 (k0_pay851 x) (ix2 ⟨16 * s + j, by omega⟩ b) := by
    unfold efLd
    have r : v.read (Elt Ideal) (v.writes (Elt Ideal) v.junk (efSt x)) = k0_pay852 (k0_pay851 x) :=
      View.read_writes_full v v.junk inb_S2048x64_S2048x64_0_0 _ []
    refine Eq.trans (congrFun r ((Rect.unit (s := S2048x64) ![16 * (s % 128), 0] S16x64.size (inb_row s)).emb (ix2 j b))) ?_
    refine congrArg (k0_pay852 (k0_pay851 x)) (funext fun a => Fin.ext ?_)
    match a with
    | ⟨0, _⟩ => show 16 * (s % 128) + 1 * j.val = 16 * s + j.val; omega
    | ⟨1, _⟩ => show 0 + 1 * b.val = b.val; omega
  rw [e]
  pointwise [k0_pay852, k0_pay851, k0_pay850]
  have h1 : (16 * s + (j : ℕ)) / 16 = s := by omega
  have h2 : (16 * s + (j : ℕ)) % 16 = j := by omega
  simp only [h1, h2]

end Loads

variable {S : Scores} {o : ℕ} {x0 : Vec Ideal S64x128x9 .f32} {x1 : Vec Ideal S64x512 .i32} {x2 : Vec Ideal S1x34 .f32} {x3 : Vec Ideal S16x16 .i32}

theorem Inp.T_apply (h : Inp S o x0 x1 x2 x3) (m3 : Memref sig .tc .vmem S1x34 .f32) (h3 : m3.IsWhole) (m4 : Memref sig .tc .vmem S16x16 .i32) (h4 : m4.IsWhole)
    (j k : Fin 16) : transV (ixLd (F := Ideal) m4 h4 x3) (tbLd m3 h3 x2) (ix2 j k) = (S.τ k j : EReal) := by
  obtain ⟨v, hv, hx⟩ := h.trans j k
  rw [transV_apply _ _ j k v.isLt (by rw [ixLd_eq, hv]), tbLd_apply _ _ _ _ (by omega)]
  exact hx

theorem Inp.start_apply (h : Inp S o x0 x1 x2 x3) (m3 : Memref sig .tc .vmem S1x34 .f32) (h3 : m3.IsWhole) (j : Fin 16) :
    edgeV (tbLd m3 h3 x2) 16 (ix2 j 0) = if (j : ℕ) < 9 then (S.st j : EReal) else ⊥ := by
  rw [edgeV_apply, named_mask]
  split
  · next hj => rw [tbLd_apply _ _ _ _ (by omega)]; exact h.start ⟨j, hj⟩
  · rfl

theorem Inp.stop_apply (h : Inp S o x0 x1 x2 x3) (m3 : Memref sig .tc .vmem S1x34 .f32) (h3 : m3.IsWhole) (j : Fin 16) :
    edgeV (tbLd m3 h3 x2) 25 (ix2 j 0) = if (j : ℕ) < 9 then (S.sp j : EReal) else ⊥ := by
  rw [edgeV_apply, named_mask]
  split
  · next hj => rw [tbLd_apply _ _ _ _ (by omega)]; exact h.stop ⟨j, hj⟩
  · rfl

theorem Inp.ef_apply (h : Inp S o x0 x1 x2 x3) (hS : S.Good) (m1 : Memref sig .tc .vmem S64x128x9 .f32) (h1 : m1.IsWhole) (v : View sig .tc .vmem S2048x64 .f32)
    (s : ℕ) (hs : s < 128) (j : Fin 16) (b : Fin 64) : efLd v (efSt (xLd m1 h1 x0)) s (ix2 j b) = (Real.exp (S.φ b (o + s) j) : EReal) := by
  rw [xLd_eq, efLd_apply v x0 s hs]
  split
  · next hj => rw [h.feat b ⟨s, hs⟩ ⟨j, hj⟩, Ideal.exp_coe]
  · next hj => rw [hS.pad b _ j (by omega), Real.exp_zero, ← EReal.coe_zero, Ideal.exp_coe, Real.exp_zero]

theorem Inp.tg_apply (h : Inp S o x0 x1 x2 x3) {i : grid0.Coords} (hi : 128 * (i 0).val = o) (m2 : Memref sig .tc .vmem S64x512 .i32) (h2 : m2.IsWhole)
    (b : Fin 64) (s : Fin 128) : tgLd (F := Ideal) i m2 h2 x1 (ix2 b s) = BitVec.ofNat 32 (S.t b (o + s)) := by
  rw [tgLd_apply, h.tags]
  simp only [hi]

end Cert.Crf
-- ==== Proof.Data.lean ====
/- The problem's numbers, read off the arguments, and the bounds that the precondition gives them. -/
module

public import proofs.«01_k».proof.Proof.Load

@[expose] public section

noncomputable section

namespace Cert.Crf

open Idealize Idealize.ShloMosaic Cert.KernelIdeal Cert.KernelIdeal.Gen

/-- Which of the fifteen parameters scores the transition from tag `k` to tag `j`; `15` for the padded ones. -/
def trIx (k j : ℕ) : ℕ := (lit0 ⟨(16 * j + k) % 256, Nat.mod_lt _ (by norm_num)⟩).toNat

theorem trIx_lt_sixteen (k j : ℕ) : trIx k j < 16 := by
  have : ∀ i : Fin 256, (lit0 i).toNat < 16 := by decide +kernel
  exact this _

theorem trIx_lt (k j : Fin 9) : trIx k j < 15 := by revert k j; decide +kernel

/-- The score that the padded transitions have. -/
def low : ℝ := (Ideal.ofBits .f32 0xF149F2CA#32).toReal

theorem low_eq : Ideal.ofBits .f32 0xF149F2CA#32 = (low : EReal) := by
  unfold low
  rw [EReal.coe_toReal] <;> simp [Ideal.ofBits, Ideal.ieee, -EReal.coe_mul]

theorem low_le : low ≤ 65536 := by
  unfold low
  simp [Ideal.ofBits, Ideal.ieee, -EReal.coe_mul]
  linarith

variable (X0 : FVec Ideal S64x512x9 .f32) (X2 : IVec S64x512 32) (X3 : FVec Ideal S3x5 .f32) (X4 X5 : FVec Ideal S9 .f32)

/-- The numbers that the arguments hold. -/
def scores : Scores where
  τ k j := if h : trIx k j < 15 then (X3 (ix2 ⟨trIx k j / 5, by omega⟩ ⟨trIx k j % 5, by omega⟩)).toReal else low
  φ b s j := if h : s < 512 ∧ j < 9 then (X0 (ix3 b ⟨s, h.1⟩ ⟨j, h.2⟩)).toReal else 0
  st j := if h : j < 9 then (X4 (ix1 ⟨j, h⟩)).toReal else 0
  sp j := if h : j < 9 then (X5 (ix1 ⟨j, h⟩)).toReal else 0
  t b s := if h : s < 512 then (X2 (ix2 b ⟨s, h⟩)).toNat else 0

/-- An extended real within the bound of the precondition. -/
def Small (x : EReal) : Prop := ((-65536 : ℝ) : EReal) ≤ x ∧ x ≤ ((65536 : ℝ) : EReal)

theorem Small.coe {x : EReal} (h : Small x) : ((x.toReal : ℝ) : EReal) = x := by
  refine EReal.coe_toReal ?_ ?_
  · rintro rfl; exact absurd h.2 (not_le.2 (EReal.coe_lt_top _))
  · rintro rfl; exact absurd h.1 (not_le.2 (EReal.bot_lt_coe _))

theorem Small.le {x : EReal} (h : Small x) : x.toReal ≤ 65536 := by
  have := h.2; rw [← h.coe] at this; exact EReal.coe_le_coe_iff.1 this

theorem Small.ge {x : EReal} (h : Small x) : -65536 ≤ x.toReal := by
  have := h.1; rw [← h.coe] at this; exact EReal.coe_le_coe_iff.1 this

/-- What the precondition says of the arguments, entry by entry. -/
structure Ranged : Prop where
  feat : ∀ i, Small (X0 i)
  tags : ∀ i, (X2 i).toNat < 9
  cdt : ∀ i, Small (X3 i)
  start : ∀ i, Small (X4 i)
  stop : ∀ i, Small (X5 i)

variable {X0 X2 X3 X4 X5}

theorem Ranged.good (h : Ranged X0 X2 X3 X4 X5) : (scores X0 X2 X3 X4 X5).Good where
  bnd b := by
    refine ⟨fun s j => ?_, fun s j => ?_, fun k j => ?_, fun k j hk hj => ?_, fun j => ?_, fun j hj => ?_, fun j => ?_⟩
    · show dite _ _ _ ≤ _
      split
      · exact (h.feat _).le
      · norm_num
    · show _ ≤ dite _ _ _
      split
      · exact (h.feat _).ge
      · norm_num
    · show dite _ _ _ ≤ _
      split
      · exact (h.cdt _).le
      · exact low_le
    · show _ ≤ dite _ _ _
      rw [dif_pos (trIx_lt ⟨k, hk⟩ ⟨j, hj⟩)]
      exact (h.cdt _).ge
    · unfold startW
      split
      · next hj =>
        show Real.exp (dite _ _ _) ≤ _
        rw [dif_pos hj]
        exact Real.exp_le_exp.2 (h.start _).le
      · exact (Real.exp_pos _).le
    · unfold startW
      rw [if_pos hj]
      show _ ≤ Real.exp (dite _ _ _)
      rw [dif_pos hj]
      exact Real.exp_le_exp.2 (h.start _).ge
    · unfold startW
      split
      · exact (Real.exp_pos _).le
      · exact le_rfl
  pad b s j hj := dif_neg (fun e => by omega)
  tag b s := by
    show dite _ _ _ < _
    split
    · exact h.tags _
    · norm_num

theorem Ranged.feat_eq (h : Ranged X0 X2 X3 X4 X5) (b : Fin 64) (s : Fin 512) (j : Fin 9) :
    X0 (ix3 b s j) = ((scores X0 X2 X3 X4 X5).φ b s j : EReal) := by
  show _ = ((dite _ _ _ : ℝ) : EReal)
  rw [dif_pos ⟨s.isLt, j.isLt⟩, (h.feat _).coe]

theorem tags_eq (b : Fin 64) (s : Fin 512) : X2 (ix2 b s) = BitVec.ofNat 32 ((scores X0 X2 X3 X4 X5).t b s) := by
  show _ = BitVec.ofNat 32 (dite _ _ _)
  rw [dif_pos s.isLt, BitVec.ofNat_toNat, BitVec.setWidth_eq]

theorem Ranged.start_eq (h : Ranged X0 X2 X3 X4 X5) (j : Fin 9) : X4 (ix1 j) = ((scores X0 X2 X3 X4 X5).st j : EReal) := by
  show _ = ((dite _ _ _ : ℝ) : EReal)
  rw [dif_pos j.isLt, (h.start _).coe]

theorem Ranged.stop_eq (h : Ranged X0 X2 X3 X4 X5) (j : Fin 9) : X5 (ix1 j) = ((scores X0 X2 X3 X4 X5).sp j : EReal) := by
  show _ = ((dite _ _ _ : ℝ) : EReal)
  rw [dif_pos j.isLt, (h.stop _).coe]

theorem Ranged.cdt_eq (h : Ranged X0 X2 X3 X4 X5) (k j : ℕ) (hv : trIx k j < 15) :
    X3 (ix2 ⟨trIx k j / 5, by omega⟩ ⟨trIx k j % 5, by omega⟩) = ((scores X0 X2 X3 X4 X5).τ k j : EReal) := by
  show _ = ((dite _ _ _ : ℝ) : EReal)
  rw [dif_pos hv, (h.cdt _).coe]

theorem low_τ (k j : ℕ) (hv : ¬trIx k j < 15) : ((scores X0 X2 X3 X4 X5).τ k j : EReal) = low := by
  show ((dite _ _ _ : ℝ) : EReal) = _
  rw [dif_neg hv]

end Cert.Crf
-- ==== Proof.RunA.lean ====
/- The first block: what a run of the kernel leaves in its scratch, as the rolled recursion. -/
module

public import proofs.«01_k».proof.Proof.Roll
public import proofs.«01_k».proof.Proof.Gen.KernelIdeal.Frame.RunA

@[expose] public section

noncomputable section

namespace Cert.Crf

open Idealize.ShloMosaic Idealize.SL.Sem Cert.KernelIdeal Cert.KernelIdeal.Gen

variable {F : FTy → Type} [FloatOps F] [Named F]

variable (c : Dev nD) (i : grid0.Coords) (arg1 : Memref sig .tc .vmem S64x128x9 .f32) (harg1 : arg1.IsWhole) (arg2 : Memref sig .tc .vmem S64x512 .i32) (harg2 : arg2.IsWhole) (arg3 : Memref sig .tc .vmem S1x34 .f32) (harg3 : arg3.IsWhole) (arg4 : Memref sig .tc .vmem S16x16 .i32) (harg4 : arg4.IsWhole) (arg5 : Memref sig .tc .vmem S1x64 .f32) (harg5 : arg5.IsWhole) (arg6 : Memref sig .tc .vmem S2048x64 .f32) (harg6 : arg6.IsWhole) (arg7 : Memref sig .tc .vmem S16x64 .f32) (harg7 : arg7.IsWhole) (arg8 : Memref sig .tc .vmem S1x64 .i32) (harg8 : arg8.IsWhole) (arg9 : Memref sig .tc .vmem S1x64 .f32) (harg9 : arg9.IsWhole) (arg10 : Memref sig .tc .vmem S16x64 .f32) (harg10 : arg10.IsWhole) (hc0 : cond0_0 i) (hc1 : cond0_1 i) (hc2 : ¬cond0_2 i) (hc3 : ¬cond0_3 i)
  (x0 : Vec F S64x128x9 .f32) (x1 : Vec F S64x512 .i32) (x2 : Vec F S1x34 .f32) (x3 : Vec F S16x16 .i32)

include hc0 hc1 hc2 hc3 in
/-- The array of forward sums after the first block. -/
theorem runA_p : (kernelRun0_A c i arg1 harg1 arg2 harg2 arg3 harg3 arg4 harg4 arg5 harg5 arg6 harg6 arg7 harg7 arg8 harg8 arg9 harg9 arg10 harg10 hc0 hc1 hc2 hc3 x0 x1 x2 x3).2.1
    = [pSt (shapeCast S16x64 (rollP (transV (ixLd arg4 harg4 x3) (tbLd arg3 harg3 x2)) (efLd arg6.view (efSt (xLd arg1 harg1 x0))) 4 (headV (transV (ixLd arg4 harg4 x3) (tbLd arg3 harg3 x2)) (edgeV (tbLd arg3 harg3 x2) 16) (efLd arg6.view (efSt (xLd arg1 harg1 x0)))) 31) shapeCasts_S16x64_S16x64)] := by
  sl_kernel_rfl

include hc0 hc1 hc2 hc3 in
/-- The exponents after the first block. -/
theorem runA_e : (kernelRun0_A c i arg1 harg1 arg2 harg2 arg3 harg3 arg4 harg4 arg5 harg5 arg6 harg6 arg7 harg7 arg8 harg8 arg9 harg9 arg10 harg10 hc0 hc1 hc2 hc3 x0 x1 x2 x3).2.2.1
    = [vSt (e := .i32) (shapeCast S1x64 (rollE (transV (ixLd arg4 harg4 x3) (tbLd arg3 harg3 x2)) (efLd arg6.view (efSt (xLd arg1 harg1 x0))) 4 (headV (transV (ixLd arg4 harg4 x3) (tbLd arg3 harg3 x2)) (edgeV (tbLd arg3 harg3 x2) 16) (efLd arg6.view (efSt (xLd arg1 harg1 x0)))) (broadcast S1x64 0#32) 31) shapeCasts_S1x64_S1x64)] := by
  sl_kernel_rfl

include hc0 hc1 hc2 hc3 in
/-- The score of the tags after the first block. -/
theorem runA_g : (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.1
    = [vSt (e := .f32) (goldV (arg9.view.readCov [vSt (e := .f32) k0_pay864] (Rect.unit (s := S1x64) ![0, 0] S1x64.size inb_S1x64_S1x64_0_0).toLoadRect) (transV (ixLd arg4 harg4 x3) (tbLd arg3 harg3 x2)) (xLd arg1 harg1 x0) (tgLd i arg2 harg2 x1) (arg10.view.readCov [pSt (k0_pay865 (edgeV (tbLd arg3 harg3 x2) 16))] (Rect.unit (s := S16x64) ![0, 0] S16x64.size inb_S16x64_S16x64_0_0).toLoadRect)), vSt (e := .f32) k0_pay864] := by
  sl_kernel_rfl

include hc0 hc1 hc2 hc3 in
/-- The row of transitions out of the first block. -/
theorem runA_r : (kernelRun0_A c i arg1 harg1 arg2 harg2 arg3 harg3 arg4 harg4 arg5 harg5 arg6 harg6 arg7 harg7 arg8 harg8 arg9 harg9 arg10 harg10 hc0 hc1 hc2 hc3 x0 x1 x2 x3).2.2.2.2.1
    = [pSt (prowV (transV (ixLd arg4 harg4 x3) (tbLd arg3 harg3 x2)) (tgLd i arg2 harg2 x1)), pSt (k0_pay865 (edgeV (tbLd arg3 harg3 x2) 16))] := by
  sl_kernel_rfl

end Cert.Crf
-- ==== Proof.RunB.lean ====
/- The blocks in the middle: what a run of the kernel leaves in its scratch, as the rolled recursion. -/
module

public import proofs.«01_k».proof.Proof.Roll
public import proofs.«01_k».proof.Proof.Gen.KernelIdeal.Frame.RunB

@[expose] public section

noncomputable section

namespace Cert.Crf

open Idealize.ShloMosaic Idealize.SL.Sem Cert.KernelIdeal Cert.KernelIdeal.Gen

variable {F : FTy → Type} [FloatOps F] [Named F]

variable (c : Dev nD) (i : grid0.Coords) (arg1 : Memref sig .tc .vmem S64x128x9 .f32) (harg1 : arg1.IsWhole) (arg2 : Memref sig .tc .vmem S64x512 .i32) (harg2 : arg2.IsWhole) (arg3 : Memref sig .tc .vmem S1x34 .f32) (harg3 : arg3.IsWhole) (arg4 : Memref sig .tc .vmem S16x16 .i32) (harg4 : arg4.IsWhole) (arg5 : Memref sig .tc .vmem S1x64 .f32) (harg5 : arg5.IsWhole) (arg6 : Memref sig .tc .vmem S2048x64 .f32) (harg6 : arg6.IsWhole) (arg7 : Memref sig .tc .vmem S16x64 .f32) (harg7 : arg7.IsWhole) (arg8 : Memref sig .tc .vmem S1x64 .i32) (harg8 : arg8.IsWhole) (arg9 : Memref sig .tc .vmem S1x64 .f32) (harg9 : arg9.IsWhole) (arg10 : Memref sig .tc .vmem S16x64 .f32) (harg10 : arg10.IsWhole) (hc0 : ¬cond0_0 i) (hc1 : ¬cond0_1 i) (hc2 : cond0_2 i) (hc3 : ¬cond0_3 i)
  (x0 : Vec F S64x128x9 .f32) (x1 : Vec F S64x512 .i32) (x2 : Vec F S1x34 .f32) (x3 : Vec F S16x16 .i32) (xs1 : Vec F S16x64 .f32) (xs2 : Vec F S1x64 .i32) (xs3 : Vec F S1x64 .f32) (xs4 : Vec F S16x64 .f32)

include hc0 hc1 hc2 hc3 in
/-- The array of forward sums after a middle block. -/
theorem runB_p : (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.1
    = [pSt (shapeCast S16x64 (rollP (transV (ixLd arg4 harg4 x3) (tbLd arg3 harg3 x2)) (efLd arg6.view (efSt (xLd arg1 harg1 x0))) 0 (pLd arg7 harg7 xs1) 32) shapeCasts_S16x64_S16x64)] := by
  sl_kernel_rfl

include hc0 hc1 hc2 hc3 in
/-- The exponents after a middle block. -/
theorem runB_e : (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.1
    = [vSt (e := .i32) (shapeCast S1x64 (rollE (transV (ixLd arg4 harg4 x3) (tbLd arg3 harg3 x2)) (efLd arg6.view (efSt (xLd arg1 harg1 x0))) 0 (pLd arg7 harg7 xs1) (vLd arg8 harg8 xs2) 32) shapeCasts_S1x64_S1x64)] := by
  sl_kernel_rfl

include hc0 hc1 hc2 hc3 in
/-- The score of the tags after a middle block. -/
theorem runB_g : (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.1
    = [vSt (e := .f32) (goldV (vLd arg9 harg9 xs3) (transV (ixLd arg4 harg4 x3) (tbLd arg3 harg3 x2)) (xLd arg1 harg1 x0) (tgLd i arg2 harg2 x1) (pLd arg10 harg10 xs4))] := by
  sl_kernel_rfl

include hc0 hc1 hc2 hc3 in
/-- The row of transitions out of a middle block. -/
theorem runB_r : (kernelRun0_B c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).2.2.2.2.1
    = [pSt (prowV (transV (ixLd arg4 harg4 x3) (tbLd arg3 harg3 x2)) (tgLd i arg2 harg2 x1))] := by
  sl_kernel_rfl

end Cert.Crf
-- ==== Proof.RunC.lean ====
/- The last block: what a run of the kernel leaves in its result. -/
module

public import proofs.«01_k».proof.Proof.Roll
public import proofs.«01_k».proof.Proof.Gen.KernelIdeal.Frame.RunC

@[expose] public section

noncomputable section

namespace Cert.Crf

open Idealize.ShloMosaic Idealize.SL.Sem Cert.KernelIdeal Cert.KernelIdeal.Gen

variable {F : FTy → Type} [FloatOps F] [Named F]

variable (c : Dev nD) (i : grid0.Coords) (arg1 : Memref sig .tc .vmem S64x128x9 .f32) (harg1 : arg1.IsWhole) (arg2 : Memref sig .tc .vmem S64x512 .i32) (harg2 : arg2.IsWhole) (arg3 : Memref sig .tc .vmem S1x34 .f32) (harg3 : arg3.IsWhole) (arg4 : Memref sig .tc .vmem S16x16 .i32) (harg4 : arg4.IsWhole) (arg5 : Memref sig .tc .vmem S1x64 .f32) (harg5 : arg5.IsWhole) (arg6 : Memref sig .tc .vmem S2048x64 .f32) (harg6 : arg6.IsWhole) (arg7 : Memref sig .tc .vmem S16x64 .f32) (harg7 : arg7.IsWhole) (arg8 : Memref sig .tc .vmem S1x64 .i32) (harg8 : arg8.IsWhole) (arg9 : Memref sig .tc .vmem S1x64 .f32) (harg9 : arg9.IsWhole) (arg10 : Memref sig .tc .vmem S16x64 .f32) (harg10 : arg10.IsWhole) (hc0 : ¬cond0_0 i) (hc1 : ¬cond0_1 i) (hc2 : cond0_2 i) (hc3 : cond0_3 i)
  (x0 : Vec F S64x128x9 .f32) (x1 : Vec F S64x512 .i32) (x2 : Vec F S1x34 .f32) (x3 : Vec F S16x16 .i32) (xs1 : Vec F S16x64 .f32) (xs2 : Vec F S1x64 .i32) (xs3 : Vec F S1x64 .f32) (xs4 : Vec F S16x64 .f32)

include hc0 hc1 hc2 hc3 in
/-- The result that the last block stores. -/
theorem runC_o : (kernelRun0_C c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4).1
    = [vSt (e := .f32) (k0_pay5 (edgeV (tbLd arg3 harg3 x2) 25) (hitV (F := F) (tgLd i arg2 harg2 x1))
      (arg7.view.readCov [pSt (shapeCast S16x64 (rollP (transV (ixLd arg4 harg4 x3) (tbLd arg3 harg3 x2)) (efLd arg6.view (efSt (xLd arg1 harg1 x0))) 0 (pLd arg7 harg7 xs1) 32) shapeCasts_S16x64_S16x64)] (Rect.unit (s := S16x64) ![0, 0] S16x64.size inb_S16x64_S16x64_0_0).toLoadRect)
      (arg8.view.readCov [vSt (e := .i32) (shapeCast S1x64 (rollE (transV (ixLd arg4 harg4 x3) (tbLd arg3 harg3 x2)) (efLd arg6.view (efSt (xLd arg1 harg1 x0))) 0 (pLd arg7 harg7 xs1) (vLd arg8 harg8 xs2) 32) shapeCasts_S1x64_S1x64)] (Rect.unit (s := S1x64) ![0, 0] S1x64.size inb_S1x64_S1x64_0_0).toLoadRect)
      (arg9.view.readCov [vSt (e := .f32) (goldV (vLd arg9 harg9 xs3) (transV (ixLd arg4 harg4 x3) (tbLd arg3 harg3 x2)) (xLd arg1 harg1 x0) (tgLd i arg2 harg2 x1) (pLd arg10 harg10 xs4))] (Rect.unit (s := S1x64) ![0, 0] S1x64.size inb_S1x64_S1x64_0_0).toLoadRect))] := by
  sl_kernel_rfl

end Cert.Crf
-- ==== Proof.Point.lean ====
/- The grid points: the state that each block leaves, and the result of the last. -/
module

public import proofs.«01_k».proof.Proof.Load
public import proofs.«01_k».proof.Proof.RunA
public import proofs.«01_k».proof.Proof.RunB
public import proofs.«01_k».proof.Proof.RunC
public import proofs.«01_k».proof.Proof.Gen.KernelIdeal.Frame

@[expose] public section

noncomputable section

namespace Cert.Crf

open Idealize Idealize.ShloMosaic Idealize.SL.Sem Cert.KernelIdeal Cert.KernelIdeal.Gen

/-- Reading back what one store of a whole array left. -/
theorem read_pSt (v : View sig .tc .vmem S16x64 .f32) (f : v.ty.Contents (Elt Ideal)) (w : FVec Ideal S16x64 .f32) (L : List (View.Piece (Elt Ideal) S16x64 .f32)) :
    v.read (Elt Ideal) (v.writes (Elt Ideal) f (pSt w :: L)) = w :=
  View.read_writes_full v f inb_S16x64_S16x64_0_0 w L

theorem read_vSt {e : EltTy} (v : View sig .tc .vmem S1x64 e) (f : v.ty.Contents (Elt Ideal)) (w : Vec Ideal S1x64 e) (L : List (View.Piece (Elt Ideal) S1x64 e)) :
    v.read (Elt Ideal) (v.writes (Elt Ideal) f (vSt w :: L)) = w :=
  View.read_writes_full v f inb_S1x64_S1x64_0_0 w L

theorem cov_pSt (v : View sig .tc .vmem S16x64 .f32) (w : FVec Ideal S16x64 .f32) (L : List (View.Piece (Elt Ideal) S16x64 .f32)) :
    v.readCov (pSt w :: L) (Rect.unit (s := S16x64) ![0, 0] S16x64.size inb_S16x64_S16x64_0_0).toLoadRect = w :=
  View.readCov_full v inb_S16x64_S16x64_0_0 inb_S16x64_S16x64_0_0 (show S16x64.Idx → Elt Ideal .f32 from w) L

theorem cov_vSt {e : EltTy} (v : View sig .tc .vmem S1x64 e) (w : Vec Ideal S1x64 e) (L : List (View.Piece (Elt Ideal) S1x64 e)) :
    v.readCov (vSt w :: L) (Rect.unit (s := S1x64) ![0, 0] S1x64.size inb_S1x64_S1x64_0_0).toLoadRect = w :=
  View.readCov_full v inb_S1x64_S1x64_0_0 inb_S1x64_S1x64_0_0 w L

theorem cast_p (w : FVec Ideal S16x64 .f32) : shapeCast S16x64 w shapeCasts_S16x64_S16x64 = w := by
  funext i; rw [eq_ix2 i]; pointwise

theorem cast_z (w : IVec S1x64 32) : shapeCast S1x64 w shapeCasts_S1x64_S1x64 = w := by
  funext i; rw [eq_ix2 i]; pointwise

variable (c : Dev nD) (i : grid0.Coords) (arg1 : Memref sig .tc .vmem S64x128x9 .f32) (harg1 : arg1.IsWhole) (arg2 : Memref sig .tc .vmem S64x512 .i32) (harg2 : arg2.IsWhole) (arg3 : Memref sig .tc .vmem S1x34 .f32) (harg3 : arg3.IsWhole) (arg4 : Memref sig .tc .vmem S16x16 .i32) (harg4 : arg4.IsWhole) (arg5 : Memref sig .tc .vmem S1x64 .f32) (harg5 : arg5.IsWhole) (arg6 : Memref sig .tc .vmem S2048x64 .f32) (harg6 : arg6.IsWhole) (arg7 : Memref sig .tc .vmem S16x64 .f32) (harg7 : arg7.IsWhole) (arg8 : Memref sig .tc .vmem S1x64 .i32) (harg8 : arg8.IsWhole) (arg9 : Memref sig .tc .vmem S1x64 .f32) (harg9 : arg9.IsWhole) (arg10 : Memref sig .tc .vmem S16x64 .f32) (harg10 : arg10.IsWhole)
variable {S : Scores} {o : ℕ} {x0 : Vec Ideal S64x128x9 .f32} {x1 : Vec Ideal S64x512 .i32} {x2 : Vec Ideal S1x34 .f32} {x3 : Vec Ideal S16x16 .i32}

/-- The first block, from nothing. -/
theorem point_A (hc0 : cond0_0 i) (hc1 : cond0_1 i) (hc2 : ¬cond0_2 i) (hc3 : ¬cond0_3 i) (hS : S.Good) (h : Inp S 0 x0 x1 x2 x3) (hi : 128 * (i 0).val = 0) :
    State S 128 (sout0_A_1 c i arg1 harg1 arg2 harg2 arg3 harg3 arg4 harg4 arg5 harg5 arg6 harg6 arg7 harg7 arg8 harg8 arg9 harg9 arg10 harg10 hc0 hc1 hc2 hc3 x0 x1 x2 x3) (sout0_A_2 c i arg1 harg1 arg2 harg2 arg3 harg3 arg4 harg4 arg5 harg5 arg6 harg6 arg7 harg7 arg8 harg8 arg9 harg9 arg10 harg10 hc0 hc1 hc2 hc3 x0 x1 x2 x3) (sout0_A_3 c i arg1 harg1 arg2 harg2 arg3 harg3 arg4 harg4 arg5 harg5 arg6 harg6 arg7 harg7 arg8 harg8 arg9 harg9 arg10 harg10 hc0 hc1 hc2 hc3 x0 x1 x2 x3) (sout0_A_4 c i arg1 harg1 arg2 harg2 arg3 harg3 arg4 harg4 arg5 harg5 arg6 harg6 arg7 harg7 arg8 harg8 arg9 harg9 arg10 harg10 hc0 hc1 hc2 hc3 x0 x1 x2 x3) := by
  have hT := h.T_apply arg3 harg3 arg4 harg4
  have he := h.ef_apply hS arg1 harg1 arg6.view
  have ht := h.tg_apply hi arg2 harg2
  refine ⟨?_, fun b => ?_, fun j b => ?_⟩
  · rw [show sout0_A_1 c i arg1 harg1 arg2 harg2 arg3 harg3 arg4 harg4 arg5 harg5 arg6 harg6 arg7 harg7 arg8 harg8 arg9 harg9 arg10 harg10 hc0 hc1 hc2 hc3 x0 x1 x2 x3 = _ from ((congrArg (fun L => VS0_1.read (Elt Ideal) (VS0_1.writes (Elt Ideal) VS0_1.junk L)) (runA_p c i arg1 harg1 arg2 harg2 arg3 harg3 arg4 harg4 arg5 harg5 arg6 harg6 arg7 harg7 arg8 harg8 arg9 harg9 arg10 harg10 hc0 hc1 hc2 hc3 x0 x1 x2 x3)).trans (read_pSt VS0_1 _ _ _)),
      show sout0_A_2 c i arg1 harg1 arg2 harg2 arg3 harg3 arg4 harg4 arg5 harg5 arg6 harg6 arg7 harg7 arg8 harg8 arg9 harg9 arg10 harg10 hc0 hc1 hc2 hc3 x0 x1 x2 x3 = _ from ((congrArg (fun L => VS0_2.read (Elt Ideal) (VS0_2.writes (Elt Ideal) VS0_2.junk L)) (runA_e c i arg1 harg1 arg2 harg2 arg3 harg3 arg4 harg4 arg5 harg5 arg6 harg6 arg7 harg7 arg8 harg8 arg9 harg9 arg10 harg10 hc0 hc1 hc2 hc3 x0 x1 x2 x3)).trans (read_vSt VS0_2 _ _ _)), cast_p, cast_z]
    have hst : ∀ j : Fin 16, Ideal.exp (edgeV (tbLd arg3 harg3 x2) 16 (ix2 j 0)) = (startW S.st j : EReal) := fun j => by
      rw [h.start_apply arg3 harg3 j]
      unfold startW
      split
      · rw [Ideal.exp_coe]
      · rw [Ideal.exp_bot]; rfl
    exact inv_roll hT hS.bnd he (by norm_num) (by norm_num) (inv_head hT he hst) (fun _ => by norm_num) (fun b => rfl) 31 (by norm_num)
  · rw [show sout0_A_3 c i arg1 harg1 arg2 harg2 arg3 harg3 arg4 harg4 arg5 harg5 arg6 harg6 arg7 harg7 arg8 harg8 arg9 harg9 arg10 harg10 hc0 hc1 hc2 hc3 x0 x1 x2 x3 = _ from ((congrArg (fun L => VS0_3.read (Elt Ideal) (VS0_3.writes (Elt Ideal) VS0_3.junk L)) (runA_g c i arg1 harg1 arg2 harg2 arg3 harg3 arg4 harg4 arg5 harg5 arg6 harg6 arg7 harg7 arg8 harg8 arg9 harg9 arg10 harg10 hc0 hc1 hc2 hc3 x0 x1 x2 x3)).trans (read_vSt VS0_3 _ _ _)), cov_vSt, cov_pSt, xLd_eq, ← gold_first]
    refine goldV_apply hS.tag ht hT h.feat (γ := fun _ => 0) (ρ := fun b => S.st (S.t b 0)) b ?_ ?_
    · pointwise [k0_pay864]
      rfl
    · pointwise [k0_pay865]
      rw [h.start_apply arg3 harg3, if_pos (hS.tag b 0)]
  · rw [show sout0_A_4 c i arg1 harg1 arg2 harg2 arg3 harg3 arg4 harg4 arg5 harg5 arg6 harg6 arg7 harg7 arg8 harg8 arg9 harg9 arg10 harg10 hc0 hc1 hc2 hc3 x0 x1 x2 x3 = _ from ((congrArg (fun L => VS0_4.read (Elt Ideal) (VS0_4.writes (Elt Ideal) VS0_4.junk L)) (runA_r c i arg1 harg1 arg2 harg2 arg3 harg3 arg4 harg4 arg5 harg5 arg6 harg6 arg7 harg7 arg8 harg8 arg9 harg9 arg10 harg10 hc0 hc1 hc2 hc3 x0 x1 x2 x3)).trans (read_pSt VS0_4 _ _ _)), prowV_apply hS.tag ht hT, Nat.zero_add]

variable {xs1 : Vec Ideal S16x64 .f32} {xs2 : Vec Ideal S1x64 .i32} {xs3 : Vec Ideal S1x64 .f32} {xs4 : Vec Ideal S16x64 .f32}

/-- A block's score of the tags, from the state before it. -/
theorem gold_next_apply (hS : S.Good) (h : Inp S o x0 x1 x2 x3) (hi : 128 * (i 0).val = o) (ho : 0 < o) (hs : State S o xs1 xs2 xs3 xs4) (b : Fin 64) :
    goldV (vLd arg9 harg9 xs3) (transV (ixLd arg4 harg4 x3) (tbLd arg3 harg3 x2)) (xLd arg1 harg1 x0) (tgLd i arg2 harg2 x1) (pLd arg10 harg10 xs4) (ix2 0 b)
      = (gold S.τ (S.φ b) S.st (S.t b) (o + 128) : EReal) := by
  rw [vLd_eq, pLd_eq, xLd_eq, ← gold_next _ _ _ _ _ ho]
  exact goldV_apply hS.tag (h.tg_apply hi arg2 harg2) (h.T_apply arg3 harg3 arg4 harg4) h.feat (γ := fun b => gold S.τ (S.φ b) S.st (S.t b) o) (ρ := fun b => S.τ (S.t b (o - 1)) (S.t b o)) b (hs.score b) (hs.row _ b)

/-- A block's forward sums, from the state before it. -/
theorem sums_next (hS : S.Good) (h : Inp S o x0 x1 x2 x3) (ho : 0 < o) (ho' : o + 128 ≤ 512) (hs : State S o xs1 xs2 xs3 xs4) :
    ∃ E : Fin 64 → ℤ, (∀ b, |E b| ≤ 150000000)
      ∧ Inv (fun b => fwd S.τ (S.φ b) (startW S.st) (o + 128 - 1)) (rollP (transV (ixLd arg4 harg4 x3) (tbLd arg3 harg3 x2)) (efLd arg6.view (efSt (xLd arg1 harg1 x0))) 0 (pLd arg7 harg7 xs1) 32) E
      ∧ ∀ b : Fin 64, rollE (transV (ixLd arg4 harg4 x3) (tbLd arg3 harg3 x2)) (efLd arg6.view (efSt (xLd arg1 harg1 x0))) 0 (pLd arg7 harg7 xs1) (vLd (F := Ideal) arg8 harg8 xs2) 32 (ix2 0 b) = BitVec.ofInt 32 (E b) := by
  obtain ⟨E, hE, hp, hz⟩ := hs.sums
  rw [pLd_eq, vLd_eq, show o + 128 - 1 = o - 1 + 4 * 32 by omega]
  exact inv_roll (h.T_apply arg3 harg3 arg4 harg4) hS.bnd (h.ef_apply hS arg1 harg1 arg6.view) ho' (by omega) hp hE hz 32 (by norm_num)

/-- A block in the middle. -/
theorem point_B (hc0 : ¬cond0_0 i) (hc1 : ¬cond0_1 i) (hc2 : cond0_2 i) (hc3 : ¬cond0_3 i) (hS : S.Good) (h : Inp S o x0 x1 x2 x3) (hi : 128 * (i 0).val = o) (ho : 0 < o) (ho' : o + 128 ≤ 512) (hs : State S o xs1 xs2 xs3 xs4) :
    State S (o + 128) (sout0_B_1 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4) (sout0_B_2 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4) (sout0_B_3 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4) (sout0_B_4 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4) := by
  refine ⟨?_, fun b => ?_, fun j b => ?_⟩
  · rw [show sout0_B_1 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4 = _ from ((congrArg (fun L => VS0_1.read (Elt Ideal) (VS0_1.writes (Elt Ideal) VS0_1.junk L)) (runB_p c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4)).trans (read_pSt VS0_1 _ _ _)),
      show sout0_B_2 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4 = _ from ((congrArg (fun L => VS0_2.read (Elt Ideal) (VS0_2.writes (Elt Ideal) VS0_2.junk L)) (runB_e c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4)).trans (read_vSt VS0_2 _ _ _)), cast_p, cast_z]
    exact sums_next arg1 harg1 arg3 harg3 arg4 harg4 arg6 arg7 harg7 arg8 harg8 hS h ho ho' hs
  · rw [show sout0_B_3 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4 = _ from ((congrArg (fun L => VS0_3.read (Elt Ideal) (VS0_3.writes (Elt Ideal) VS0_3.junk L)) (runB_g c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4)).trans (read_vSt VS0_3 _ _ _))]
    exact gold_next_apply i arg1 harg1 arg2 harg2 arg3 harg3 arg4 harg4 arg9 harg9 arg10 harg10 hS h hi ho hs b
  · rw [show sout0_B_4 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4 = _ from ((congrArg (fun L => VS0_4.read (Elt Ideal) (VS0_4.writes (Elt Ideal) VS0_4.junk L)) (runB_r c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4)).trans (read_pSt VS0_4 _ _ _)), prowV_apply hS.tag (h.tg_apply hi arg2 harg2) (h.T_apply arg3 harg3 arg4 harg4)]
    rfl

/-- The last block's result. -/
theorem point_C (hc0 : ¬cond0_0 i) (hc1 : ¬cond0_1 i) (hc2 : cond0_2 i) (hc3 : cond0_3 i) (hS : S.Good) (h : Inp S 384 x0 x1 x2 x3) (hi : 128 * (i 0).val = 384) (hs : State S 384 xs1 xs2 xs3 xs4) (b : Fin 64) :
    out0_C_4 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4 (ix2 0 b) = (loss S.τ (S.φ b) S.st S.sp (S.t b) : EReal) := by
  rw [show out0_C_4 c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4 = _ from ((congrArg (fun L => VO0_4.read (Elt Ideal) (VO0_4.writes (Elt Ideal) VO0_4.junk L)) (runC_o c i arg1 harg1 arg2 harg2 arg3 harg3 arg4 harg4 arg5 harg5 arg6 harg6 arg7 harg7 arg8 harg8 arg9 harg9 arg10 harg10 hc0 hc1 hc2 hc3 x0 x1 x2 x3 xs1 xs2 xs3 xs4)).trans (read_vSt VO0_4 _ _ _)), cov_pSt, cov_vSt, cov_vSt, cast_p, cast_z]
  obtain ⟨E, hE, hp, hz⟩ := sums_next arg1 harg1 arg3 harg3 arg4 harg4 arg6 arg7 harg7 arg8 harg8 hS h (by norm_num) (by norm_num) hs
  exact last_apply hS.bnd hS.tag (h.tg_apply hi arg2 harg2) (h.stop_apply arg3 harg3) hp hE hz
    (gold_next_apply i arg1 harg1 arg2 harg2 arg3 harg3 arg4 harg4 arg9 harg9 arg10 harg10 hS h hi (by norm_num) hs) b

end Cert.Crf
-- ==== Proof.Host.lean ====
/- The kernel's grid: the blocks that its four points read, and the value that it returns. -/
module

public import proofs.«01_k».proof.Proof.Data
public import proofs.«01_k».proof.Proof.Point
public import proofs.«01_k».proof.Proof.Gen.KernelIdeal.Value
import Idealize.ShloMosaic.Lib.Pointwise

@[expose] public section

noncomputable section

namespace Cert.Crf

open Idealize Idealize.ShloMosaic Cert.KernelIdeal Cert.KernelIdeal.Gen Cert.KernelIdeal.Value

/-- The parameters as one row: the fifteen transitions, the padded score, the start and the stop scores. -/
def packed (X3 : FVec Ideal S3x5 .f32) (X4 X5 : FVec Ideal S9 .f32) : FVec Ideal S1x34 .f32 :=
  shapeCast S1x34 (concatenate S34 0 [⟨S15, shapeCast S15 X3 shapeCasts_S3x5_S15⟩, ⟨S1, broadcastInDim S1 ![] bcast_S_S1 (constant (F := Ideal) S_ .f32 0xF149F2CA#32)⟩, ⟨S9, X4⟩, ⟨S9, X5⟩] concatenates_S15_S1_S9_S9_S34_d0) shapeCasts_S34_S1x34

/-- The table of the transitions' places. -/
def places : IVec S16x16 32 := fun i => lit0 (S16x16.rowMajor i)

variable (m : (l : Loc nD τ sig) → Buf (Elt Ideal) l) (c : Dev nD)

theorem V_c : V m c main_c = places := by
  show StableHlo.after hostOps0 _ _ = _
  after_results
  rfl

theorem V_v3 : V m c main_v3 = packed (m ((c.tc : Thread nD τ).loc main_arg3)) (m ((c.tc : Thread nD τ).loc main_arg4)) (m ((c.tc : Thread nD τ).loc main_arg5)) := by
  show StableHlo.after hostOps0 _ _ = _
  after_results
  rfl

theorem places_apply (j k : Fin 16) : places (ix2 j k) = BitVec.ofNat 32 (trIx k j) := by
  revert j k; decide +kernel

variable (X3 : FVec Ideal S3x5 .f32) (X4 X5 : FVec Ideal S9 .f32)

theorem packed_cdt (v : ℕ) (hv : v < 15) : packed X3 X4 X5 (ix2 0 ⟨v, by omega⟩) = X3 (ix2 ⟨v / 5, by omega⟩ ⟨v % 5, by omega⟩) := by
  pointwise [packed]
  rw [dif_pos hv]

theorem packed_low : packed X3 X4 X5 (ix2 0 ⟨15, by omega⟩) = Ideal.ofBits .f32 0xF149F2CA#32 := by
  pointwise [packed]

theorem packed_start (j : Fin 9) : packed X3 X4 X5 (ix2 0 ⟨16 + j, by omega⟩) = X4 (ix1 j) := by
  pointwise [packed]
  rw [dif_neg (by omega), dif_neg (by omega), dif_pos (by omega)]
  exact congrArg (fun i => X4 (ix1 i)) (Fin.ext (by show 16 + j.val - 15 - 1 = j.val; omega))

theorem packed_stop (j : Fin 9) : packed X3 X4 X5 (ix2 0 ⟨25 + j, by omega⟩) = X5 (ix1 j) := by
  pointwise [packed]
  rw [dif_neg (by omega), dif_neg (by omega), dif_neg (by omega)]
  exact congrArg (fun i => X5 (ix1 i)) (Fin.ext (by show 25 + j.val - 15 - 1 - 9 = j.val; omega))

/-- The first block's place in the features. -/
theorem blk0 (t : Fin cfg0.N) (b : Fin 64) (s : Fin 128) (j : Fin 9) :
    (iblk m c 0 t : FVec Ideal S64x128x9 .f32) (ix3 b s j) = (m ((c.tc : Thread nD τ).loc main_arg0) : FVec Ideal S64x512x9 .f32) (ix3 b ⟨128 * t.val + s, by have h : t.val < 4 := lt_of_lt_of_eq t.isLt N_0; omega⟩ j) := by
  have h0 : win0_0.index t = ![0, t.val, 0] := by revert t; decide +kernel
  show V m c main_arg0 ((win0_0.rect t).emb (ix3 b s j)) = _
  rw [V_main_arg0]
  congr 1
  funext a; apply Fin.ext
  refine (Pipeline.Window.rect_emb_val win0_0 t _ a).trans ?_
  rw [h0]
  match a with
  | ⟨0, _⟩ => show 0 * 64 + b.val = b.val; omega
  | ⟨1, _⟩ => show t.val * 128 + s.val = 128 * t.val + s.val; omega
  | ⟨2, _⟩ => show 0 * 9 + j.val = j.val; omega

theorem blk1 (t : Fin cfg0.N) : (iblk m c 1 t : IVec S64x512 32) = m ((c.tc : Thread nD τ).loc main_arg2) := by
  have h0 : win0_1.index t = ![0, 0] := by revert t; decide +kernel
  funext y
  show V m c main_arg2 ((win0_1.rect t).emb y) = _
  rw [V_main_arg2]
  congr 1
  funext a; apply Fin.ext
  exact Pipeline.Window.rect_emb_val_of_index_zero _ _ _ (by rw [h0]; fin_cases a <;> rfl) _

theorem blk2 (t : Fin cfg0.N) : (iblk m c 2 t : FVec Ideal S1x34 .f32) = V m c main_v3 := by
  have h0 : win0_2.index t = ![0, 0] := by revert t; decide +kernel
  funext y
  show V m c main_v3 ((win0_2.rect t).emb y) = _
  congr 1
  funext a; apply Fin.ext
  exact Pipeline.Window.rect_emb_val_of_index_zero _ _ _ (by rw [h0]; fin_cases a <;> rfl) _

theorem blk3 (t : Fin cfg0.N) : (iblk m c 3 t : IVec S16x16 32) = V m c main_c := by
  have h0 : win0_3.index t = ![0, 0] := by revert t; decide +kernel
  funext y
  show V m c main_c ((win0_3.rect t).emb y) = _
  congr 1
  funext a; apply Fin.ext
  exact Pipeline.Window.rect_emb_val_of_index_zero _ _ _ (by rw [h0]; fin_cases a <;> rfl) _

/-- The features, the tags and the parameters of a core. -/
abbrev A0 : FVec Ideal S64x512x9 .f32 := m ((c.tc : Thread nD τ).loc main_arg0)
abbrev A2 : IVec S64x512 32 := m ((c.tc : Thread nD τ).loc main_arg2)
abbrev A3 : FVec Ideal S3x5 .f32 := m ((c.tc : Thread nD τ).loc main_arg3)
abbrev A4 : FVec Ideal S9 .f32 := m ((c.tc : Thread nD τ).loc main_arg4)
abbrev A5 : FVec Ideal S9 .f32 := m ((c.tc : Thread nD τ).loc main_arg5)

variable {m c}

theorem inp (h : Ranged (A0 m c) (A2 m c) (A3 m c) (A4 m c) (A5 m c)) (t : Fin cfg0.N) :
    Inp (scores (A0 m c) (A2 m c) (A3 m c) (A4 m c) (A5 m c)) (128 * t.val) (iblk m c 0 t) (iblk m c 1 t) (iblk m c 2 t) (iblk m c 3 t) where
  feat b s j := (blk0 m c t b s j).trans (h.feat_eq b ⟨128 * t.val + s, by have h : t.val < 4 := lt_of_lt_of_eq t.isLt N_0; omega⟩ j)
  tags b s := by rw [blk1]; exact tags_eq b s
  trans j k := by
    rw [blk3, blk2, V_c, V_v3]
    refine ⟨⟨trIx k j, trIx_lt_sixteen k j⟩, places_apply j k, ?_⟩
    by_cases hv : trIx k j < 15
    · exact (packed_cdt _ _ _ _ hv).trans (h.cdt_eq k j hv)
    · have e : (⟨trIx k j, trIx_lt_sixteen k j⟩ : Fin 16) = 15 := Fin.ext (by have := trIx_lt_sixteen k j; show trIx k j = 15; omega)
      rw [e, low_τ k j hv]
      exact (packed_low _ _ _).trans low_eq
  start j := by rw [blk2, V_v3]; exact (packed_start _ _ _ j).trans (h.start_eq j)
  stop j := by rw [blk2, V_v3]; exact (packed_stop _ _ _ j).trans (h.stop_eq j)

/-- The point's number is its coordinate. -/
theorem coord (t : Fin cfg0.N) : (grid0.coords t 0).val = t.val := by revert t; decide +kernel

/-- What the first point leaves. -/
theorem state_first (h : Ranged (A0 m c) (A2 m c) (A3 m c) (A4 m c) (A5 m c)) (hn : 0 < cfg0.N) (acc) :
    State (scores (A0 m c) (A2 m c) (A3 m c) (A4 m c) (A5 m c)) 128 (stAt0 m c 0 hn acc).2.1 (stAt0 m c 0 hn acc).2.2.1 (stAt0 m c 0 hn acc).2.2.2.1 (stAt0 m c 0 hn acc).2.2.2.2 := by
  rw [stAt0_A m c ⟨0, hn⟩ acc rfl rfl (by norm_num) (by norm_num)]
  exact point_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (by show 0 % 4 = 0; omega)) ((hcond0_1 ⟨0, hn⟩).mpr (by show 0 % 4 = 0; omega)) (mt (hcond0_2 ⟨0, hn⟩).mp (by show ¬1 ≤ 0; omega)) (mt (hcond0_3 ⟨0, hn⟩).mp (by show ¬0 % 4 = 3; omega)) h.good (inp h ⟨0, hn⟩) (congrArg (128 * ·) (coord _))

/-- What a middle point leaves. -/
theorem state_next (h : Ranged (A0 m c) (A2 m c) (A3 m c) (A4 m c) (A5 m c)) (n : ℕ) (hn : n < cfg0.N) (h1 : 1 ≤ n) (h2 : n < 3) (acc)
    (hs : State (scores (A0 m c) (A2 m c) (A3 m c) (A4 m c) (A5 m c)) (128 * n) acc.2.1 acc.2.2.1 acc.2.2.2.1 acc.2.2.2.2) :
    State (scores (A0 m c) (A2 m c) (A3 m c) (A4 m c) (A5 m c)) (128 * n + 128) (stAt0 m c n hn acc).2.1 (stAt0 m c n hn acc).2.2.1 (stAt0 m c n hn acc).2.2.2.1 (stAt0 m c n hn acc).2.2.2.2 := by
  rw [stAt0_B m c ⟨n, hn⟩ acc (by show ¬n % 4 = 0; omega) (by show ¬n % 4 = 0; omega) h1 (by show ¬n % 4 = 3; omega)]
  exact point_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) scM0_2 (Memref.isWhole_whole _) scM0_3 (Memref.isWhole_whole _) scM0_4 (Memref.isWhole_whole _) (mt (hcond0_0 ⟨n, hn⟩).mp (by show ¬n % 4 = 0; omega)) (mt (hcond0_1 ⟨n, hn⟩).mp (by show ¬n % 4 = 0; omega)) ((hcond0_2 ⟨n, hn⟩).mpr (by show 1 ≤ n; omega)) (mt (hcond0_3 ⟨n, hn⟩).mp (by show ¬n % 4 = 3; omega)) h.good (inp h ⟨n, hn⟩) (congrArg (128 * ·) (coord _)) (by omega) (by omega) hs

/-- What the last point writes. -/
theorem state_last (h : Ranged (A0 m c) (A2 m c) (A3 m c) (A4 m c) (A5 m c)) (hn : 3 < cfg0.N) (acc)
    (hs : State (scores (A0 m c) (A2 m c) (A3 m c) (A4 m c) (A5 m c)) 384 acc.2.1 acc.2.2.1 acc.2.2.2.1 acc.2.2.2.2) (b : Fin 64) :
    (stAt0 m c 3 hn acc).1 (ix2 0 b) = (let S := scores (A0 m c) (A2 m c) (A3 m c) (A4 m c) (A5 m c)
      (loss S.τ (S.φ b) S.st S.sp (S.t b) : EReal)) := by
  rw [stAt0_C m c ⟨3, hn⟩ acc (by norm_num) (by norm_num) (by norm_num) rfl]
  exact point_C c (grid0.coords ⟨3, hn⟩) (ms0_0 ⟨3, hn⟩) (hs0_0 ⟨3, hn⟩) (ms0_1 ⟨3, hn⟩) (hs0_1 ⟨3, hn⟩) (ms0_2 ⟨3, hn⟩) (hs0_2 ⟨3, hn⟩) (ms0_3 ⟨3, hn⟩) (hs0_3 ⟨3, hn⟩) (ms0_4 ⟨3, hn⟩) (hs0_4 ⟨3, hn⟩) scM0_0 (Memref.isWhole_whole _) scM0_1 (Memref.isWhole_whole _) scM0_2 (Memref.isWhole_whole _) scM0_3 (Memref.isWhole_whole _) scM0_4 (Memref.isWhole_whole _) (mt (hcond0_0 ⟨3, hn⟩).mp (by show ¬3 % 4 = 0; omega)) (mt (hcond0_1 ⟨3, hn⟩).mp (by show ¬3 % 4 = 0; omega)) ((hcond0_2 ⟨3, hn⟩).mpr (by show 1 ≤ 3; omega)) ((hcond0_3 ⟨3, hn⟩).mpr (by show 3 % 4 = 3; omega)) h.good (inp h ⟨3, hn⟩) (congrArg (128 * ·) (coord _)) hs b

/-- The kernel returns the loss. -/
theorem kernel_apply (h : Ranged (A0 m c) (A2 m c) (A3 m c) (A4 m c) (A5 m c)) (b : Fin 64) :
    (G4 m c : FVec Ideal S1x64 .f32) (ix2 0 b) = (let S := scores (A0 m c) (A2 m c) (A3 m c) (A4 m c) (A5 m c)
      (loss S.τ (S.φ b) S.st S.sp (S.t b) : EReal)) := by
  rw [G4_last]
  exact state_last h _ _ (state_next h 2 _ (by norm_num) (by norm_num) _ (state_next h 1 _ (by norm_num) (by norm_num) _ (state_first h _ _))) b

end Cert.Crf
-- ==== Proof.Take.lean ====
/- The three gathers of the reference, read at an index. -/
module

public import Idealize.ShloMosaic.Lib.StableHlo.Predicate
public import Idealize.ShloMosaic.Lib.ValueIdxCore
public import Idealize.ShloMosaic.Lib.Pointwise.Index
import Idealize.ShloMosaic.Lib.Pointwise

@[expose] public section

noncomputable section

namespace Cert.Crf

open Idealize Idealize.ShloMosaic

variable {α : Type}

/-- The dimension numbers of `x[i, j]` with one pair of indices for each entry of an `R` by `C` result. -/
def pairDims (N M R C : ℕ) (wf : GatherDims.WF ⟨2, ![N, M]⟩ ⟨3, ![R, C, 2]⟩ ⟨2, ![R, C]⟩ [] [0, 1] [] [0, 1] [] 2 ![1, 1]) :
    GatherDims ⟨2, ![N, M]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

theorem gather_pair {N M R C : ℕ} (hN : 0 < N) (hM : 0 < M) (wf) (x : (⟨2, ![N, M]⟩ : Shape).Idx → α) (idx : IVec ⟨3, ![R, C, 2]⟩ 32)
    (r : Fin R) (k : Fin C) : Host.gather (pairDims N M R C wf) x idx (ix2 r k)
      = x (ix2 ⟨min (idx (ix3 r k 0)).toInt.toNat (N - 1), by omega⟩ ⟨min (idx (ix3 r k 1)).toInt.toNat (M - 1), by omega⟩) := by
  unfold Host.gather
  congr 1
  have hs : ∀ (i : Fin 2) h, (pairDims N M R C wf).siIdx (ix2 r k) ⟨List.idxOf i (pairDims N M R C wf).startIndexMap, h⟩ = ix3 r k i := by
    intro i h
    fin_cases i <;>
    · funext b; refine Fin.ext ?_
      match b with
      | ⟨0, _⟩ => rfl
      | ⟨1, _⟩ => rfl
      | ⟨2, _⟩ => rfl
  have hv : ∀ i : Fin 2, ((pairDims N M R C wf).operandIdx (ix2 r k) idx i).val = min (idx (ix3 r k i)).toInt.toNat ((![N, M] : Fin 2 → ℕ) i - 1) := by
    intro i
    have hi : i ∈ ([0, 1] : List (Fin 2)) := by fin_cases i <;> simp
    show (pairDims N M R C wf).start (ix2 r k) idx i + (pairDims N M R C wf).batchCoord (ix2 r k) i + (pairDims N M R C wf).offCoord (ix2 r k) i = _
    rw [GatherDims.batchCoord_eq_zero _ _ _ List.not_mem_nil,
      GatherDims.offCoord_eq_zero _ _ _ (fun h => ((GatherDims.mem_sKept _ _).mp h).1 hi)]
    simp only [Nat.add_zero]
    unfold GatherDims.start
    rw [dif_pos (show i ∈ (pairDims N M R C wf).startIndexMap from hi), hs]
    have : (pairDims N M R C wf).sliceSizes i = 1 := by fin_cases i <;> rfl
    rw [this]
  funext a; refine Fin.ext ?_
  rw [hv]
  fin_cases a <;> rfl

/-- The dimension numbers of `take_along_axis` along the last axis of a `B` by `S` by `N` array, one index each. -/
def alongDims (B S N : ℕ) (wf : GatherDims.WF ⟨3, ![B, S, N]⟩ ⟨4, ![B, S, 1, 1]⟩ ⟨3, ![B, S, 1]⟩ [] [2] [0, 1] [2] [0, 1] 3 ![1, 1, 1]) :
    GatherDims ⟨3, ![B, S, N]⟩ ⟨4, ![B, S, 1, 1]⟩ ⟨3, ![B, S, 1]⟩ where
  offsetDims := []
  collapsedSliceDims := [2]
  operandBatchingDims := [0, 1]
  startIndicesBatchingDims := [0, 1]
  startIndexMap := [2]
  indexVectorDim := 3
  sliceSizes := ![1, 1, 1]
  wf := wf

theorem gather_along {B S N : ℕ} (hN : 0 < N) (wf) (x : (⟨3, ![B, S, N]⟩ : Shape).Idx → α) (idx : IVec ⟨4, ![B, S, 1, 1]⟩ 32)
    (b : Fin B) (s : Fin S) : Host.gather (alongDims B S N wf) x idx (ix3 b s 0)
      = x (ix3 b s ⟨min (idx (ix4 b s 0 0)).toInt.toNat (N - 1), by omega⟩) := by
  unfold Host.gather
  congr 1
  funext a
  refine Fin.ext ?_
  show (alongDims B S N wf).start (ix3 b s 0) idx a + (alongDims B S N wf).batchCoord (ix3 b s 0) a + (alongDims B S N wf).offCoord (ix3 b s 0) a = _
  by_cases ha : a ∈ ([0, 1] : List (Fin 3))
  · rw [GatherDims.start_batching _ _ _ _ ha, GatherDims.offCoord_eq_zero _ _ _ (fun h => ((GatherDims.mem_sKept _ _).mp h).2 ha)]
    simp only [Nat.zero_add, Nat.add_zero]
    unfold GatherDims.batchCoord
    rw [dif_pos (show a ∈ (alongDims B S N wf).operandBatchingDims from ha)]
    match a with
    | ⟨0, _⟩ => rfl
    | ⟨1, _⟩ => rfl
    | ⟨2, _⟩ => exact absurd ha (by simp)
  · obtain rfl : a = 2 := by
      match a with
      | ⟨0, _⟩ => exact absurd (by simp) ha
      | ⟨1, _⟩ => exact absurd (by simp) ha
      | ⟨2, _⟩ => rfl
    rw [GatherDims.batchCoord_eq_zero _ _ _ ha,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (alongDims B S N wf).startIndexMap from List.mem_singleton.mpr rfl)]
    have hsi : (alongDims B S N wf).siIdx (ix3 b s 0) ⟨List.idxOf (2 : Fin 3) (alongDims B S N wf).startIndexMap,
        List.idxOf_lt_length_iff.2 (List.mem_singleton.mpr rfl)⟩ = ix4 b s 0 0 := by
      funext b; refine Fin.ext ?_
      match b with
      | ⟨0, _⟩ => rfl
      | ⟨1, _⟩ => rfl
      | ⟨2, _⟩ => rfl
      | ⟨3, _⟩ => rfl
    rw [hsi]
    rfl

/-- The dimension numbers of `take_along_axis` along the rows of a `B` by `N` array, one index for each row. -/
def rowDims (B N : ℕ) (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

theorem gather_row {B N : ℕ} (hN : 0 < N) (wf) (x : (⟨2, ![B, N]⟩ : Shape).Idx → α) (idx : IVec ⟨3, ![B, 1, 1]⟩ 32) (b : Fin B) :
    Host.gather (rowDims B N wf) x idx (ix2 b 0) = x (ix2 b ⟨min (idx (ix3 b 0 0)).toInt.toNat (N - 1), by omega⟩) := by
  unfold Host.gather
  congr 1
  funext a
  refine Fin.ext ?_
  show (rowDims B N wf).start (ix2 b 0) idx a + (rowDims B N wf).batchCoord (ix2 b 0) a + (rowDims B N wf).offCoord (ix2 b 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowDims B N wf).operandBatchingDims from List.mem_singleton.mpr rfl)]
    rfl
  · rw [GatherDims.batchCoord_eq_zero _ _ _ (show (1 : Fin 2) ∉ [0] by simp),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims B N wf).startIndexMap from List.mem_singleton.mpr rfl)]
    have hsi : (rowDims B N wf).siIdx (ix2 b 0) ⟨List.idxOf (1 : Fin 2) (rowDims B N wf).startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi]
    rfl

theorem gather_flat {N n : ℕ} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (p : Fin n) (hN : 0 < N) :
    Host.gather d x idx (ix1 p) = x (ix1 ⟨min (idx (ix2 p 0)).toInt.toNat (N - 1), by omega⟩) := by
  have e : ∀ {k : ℕ} (p : Fin k), Shape.Idx.ofFin p = ix1 p := fun p => by
    funext a; obtain rfl : a = 0 := Subsingleton.elim _ _; rfl
  have e' : StableHlo.Predicate.ixP p = ix2 p 0 := by
    funext a; match a with
    | ⟨0, _⟩ => rfl
    | ⟨1, _⟩ => rfl
  rw [← e, StableHlo.Predicate.gather_take d hcoll hob hsim hivd x idx p hN, e]
  exact congrArg (fun i => x (ix1 i)) (Fin.ext (by show min _ _ = min _ _; rw [e']))

/-- A word below `2 ^ 31` clamped into a range that holds it is itself. -/
theorem clamp_small {n k : ℕ} (hn : n ≤ k) (hk : k < 2 ^ 31) : min (BitVec.ofNat 32 n).toInt.toNat k = n := by
  rw [StableHlo.Predicate.toInt_ofNat_small n (by omega)]
  omega

/-- The wrap of a negative index leaves an index from zero on alone. -/
theorem wrap_small {n : ℕ} (hn : n < 2 ^ 31) (x : BitVec 32) :
    Scalar.select (IntOp.cmpi .slt (BitVec.ofNat 32 n) 0#32) x (BitVec.ofNat 32 n) = BitVec.ofNat 32 n := by
  have : IntOp.cmpi .slt (BitVec.ofNat 32 n) 0#32 ≠ 1#1 := by
    rw [show (0#32 : BitVec 32) = BitVec.ofNat 32 0 from rfl]
    intro h
    have := (StableHlo.Predicate.slt_ofNat_iff n 0 hn (by norm_num)).1 h
    omega
  exact if_neg this

end Cert.Crf
-- ==== Proof.RefLoop.lean ====
/- The reference's loop: after `k` trips its partition holds the logarithms of the forward sums. -/
module

public import proofs.«01_k».proof.Proof.Data
public import proofs.«01_k».proof.Proof.Take
public import proofs.«01_k».proof.Proof.Gen.ReferenceIdeal.Run
import Idealize.ShloMosaic.Lib.Pointwise

@[expose] public section

noncomputable section

namespace Cert.Crf

open Idealize Idealize.ShloMosaic Idealize.ShloMosaic.TcCoe Cert.ReferenceIdeal Cert.ReferenceIdeal.Gen Cert.ReferenceIdeal.Value StableHlo

variable (m : (l : Loc nD τ sig) → Buf (Elt Ideal) l) (c : Dev nD)

/-- The reference's arguments. -/
abbrev R0 : FVec Ideal S64x512x9 .f32 := m ((c.tc : Thread nD τ).loc main_arg0)
abbrev R1 : FVec Ideal S64x512 .f32 := m ((c.tc : Thread nD τ).loc main_arg1)
abbrev R2 : IVec S64x512 32 := m ((c.tc : Thread nD τ).loc main_arg2)
abbrev R3 : FVec Ideal S3x5 .f32 := m ((c.tc : Thread nD τ).loc main_arg3)
abbrev R4 : FVec Ideal S9 .f32 := m ((c.tc : Thread nD τ).loc main_arg4)
abbrev R5 : FVec Ideal S9 .f32 := m ((c.tc : Thread nD τ).loc main_arg5)

/-- The features by steps, from the second step on. -/
def featR (X0 : FVec Ideal S64x512x9 .f32) : FVec Ideal S511x64x9 .f32 :=
  extractStridedSlice S511x64x9 ![1, 0, 0] (transpose S512x64x9 [1, 0, 2] X0 transposes_S64x512x9_S512x64x9_1_0_2) slices_S512x64x9_S511x64x9_1_0_0

/-- The places where the mask is set. -/
def onR (X1 : FVec Ideal S64x512 .f32) : IVec S64x512 1 :=
  cmpf .ogt X1 (broadcastInDim S64x512 ![] bcast_S_S64x512 (constant (F := Ideal) S_ .f32 0x00000000#32))

/-- The mask by steps, from the second step on. -/
def maskR (X1 : FVec Ideal S64x512 .f32) : IVec S511x64 1 :=
  extractStridedSlice S511x64 ![1, 0] (transpose S512x64 [1, 0] (onR X1) transposes_S64x512_S512x64_1_0) slices_S512x64_S511x64_1_0

/-- The index pairs of the transitions. -/
def pairR : IVec S9x9x2 32 :=
  concatenate S9x9x2 2 [⟨S9x9x1, broadcastInDim S9x9x1 ![0, 1] bcast_S9x9_S9x9x1_0_1 (select (cmpi .slt (fun i => lit0 (S9x9.rowMajor i)) (broadcastInDim S9x9 ![] bcast_S_S9x9 (constantI S_ 32 0#32))) (addi (fun i => lit0 (S9x9.rowMajor i)) (broadcastInDim S9x9 ![] bcast_S_S9x9 (constantI S_ 32 3#32))) (fun i => lit0 (S9x9.rowMajor i)))⟩,
    ⟨S9x9x1, broadcastInDim S9x9x1 ![0, 1] bcast_S9x9_S9x9x1_0_1 (select (cmpi .slt (fun i => lit1 (S9x9.rowMajor i)) (broadcastInDim S9x9 ![] bcast_S_S9x9 (constantI S_ 32 0#32))) (addi (fun i => lit1 (S9x9.rowMajor i)) (broadcastInDim S9x9 ![] bcast_S_S9x9 (constantI S_ 32 5#32))) (fun i => lit1 (S9x9.rowMajor i)))⟩] concatenates_S9x9x1_S9x9x1_S9x9x2_d2

/-- The transitions. -/
def transR (X3 : FVec Ideal S3x5 .f32) : FVec Ideal S9x9 .f32 := Host.gather gather_S3x5_S9x9x2_S9x9_n_01_n_n_01_2_11 X3 pairR

/-- The first partition. -/
def firstR (X0 : FVec Ideal S64x512x9 .f32) (X4 : FVec Ideal S9 .f32) : FVec Ideal S64x9 .f32 :=
  addf (shapeCast S64x9 (extractStridedSlice S1x64x9 ![0, 0, 0] (transpose S512x64x9 [1, 0, 2] X0 transposes_S64x512x9_S512x64x9_1_0_2) slices_S512x64x9_S1x64x9_0_0_0) shapeCasts_S1x64x9_S64x9)
    (broadcastInDim S64x9 ![0, 1] bcast_S1x9_S64x9_0_1 (broadcastInDim S1x9 ![1] bcast_S9_S1x9_1 X4))

theorem entry0 : entryContents preI m c (Proc.devRef .tc main_v25_0) = featR (R0 m c) := by
  simp only [entryContents, afterL_cons, afterL_nil]
  after_reads_simp
  rfl

theorem entry1 : entryContents preI m c (Proc.devRef .tc main_v25_1) = maskR (R1 m c) := by
  simp only [entryContents, afterL_cons, afterL_nil]
  after_reads_simp
  rfl

theorem entry2 : entryContents preI m c (Proc.devRef .tc main_v25_2) = transR (R3 m c) := by
  simp only [entryContents, afterL_cons, afterL_nil]
  after_reads_simp
  rfl

theorem entry4 : entryContents preI m c (Proc.devRef .tc main_v25_4) = firstR (R0 m c) (R4 m c) := by
  simp only [entryContents, afterL_cons, afterL_nil]
  after_reads_simp
  rfl

section
variable (X0 : FVec Ideal S64x512x9 .f32) (X1 : FVec Ideal S64x512 .f32) (X3 : FVec Ideal S3x5 .f32) (X4 : FVec Ideal S9 .f32)

theorem featR_apply (k : Fin 511) (b : Fin 64) (j : Fin 9) : featR X0 (ix3 k b j) = X0 (ix3 b ⟨1 + k, by omega⟩ j) := by
  pointwise [featR]

theorem firstR_apply (b : Fin 64) (j : Fin 9) : firstR X0 X4 (ix2 b j) = X0 (ix3 b 0 j) + X4 (ix1 j) := by
  pointwise [firstR]

theorem maskR_apply (hX : ∀ i, onR X1 i = 1#1) (k : Fin 511) (b : Fin 64) : maskR X1 (ix2 k b) = 1#1 := by
  pointwise [maskR]
  exact hX _

theorem pairR_zero (k j : Fin 9) : pairR (ix3 k j 0) = BitVec.ofNat 32 (trIx k j / 5) := by
  pointwise [pairR]
  revert k j; decide +kernel

theorem pairR_one (k j : Fin 9) : pairR (ix3 k j 1) = BitVec.ofNat 32 (trIx k j % 5) := by
  pointwise [pairR]
  revert k j; decide +kernel

theorem transR_apply (k j : Fin 9) : transR X3 (ix2 k j) = X3 (ix2 ⟨trIx k j / 5, by have := trIx_lt k j; omega⟩ ⟨trIx k j % 5, by omega⟩) := by
  have h := trIx_lt k j
  refine (gather_pair (by norm_num) (by norm_num) _ X3 pairR k j).trans (congrArg X3 ?_)
  rw [ix2_inj]
  constructor
  · apply Fin.ext; show min (pairR (ix3 k j 0)).toInt.toNat 2 = _; rw [pairR_zero, clamp_small (by omega) (by norm_num)]
  · apply Fin.ext; show min (pairR (ix3 k j 1)).toInt.toNat 4 = _; rw [pairR_one, clamp_small (by omega) (by norm_num)]
end

/-- A slice of one step. -/
theorem slice_feat (x : FVec Ideal S511x64x9 .f32) (start : Fin 3 → ℤ) (h) (k : Fin 511) (h0 : start 0 = k) (h1 : start 1 = 0) (h2 : start 2 = 0)
    (b : Fin 64) (j : Fin 9) : Host.dynamicSlice S1x64x9 x start h (ix3 0 b j) = x (ix3 k b j) := by
  refine congrArg x ?_
  funext a; apply Fin.ext
  match a with
  | ⟨0, _⟩ =>
    show (min (max (start 0) 0) ((511 - 1 : ℕ) : ℤ)).toNat + 0 = k.val
    rw [h0]; omega
  | ⟨1, _⟩ =>
    show (min (max (start 1) 0) ((64 - 64 : ℕ) : ℤ)).toNat + b.val = b.val
    rw [h1]; omega
  | ⟨2, _⟩ =>
    show (min (max (start 2) 0) ((9 - 9 : ℕ) : ℤ)).toNat + j.val = j.val
    rw [h2]; omega

theorem slice_mask (x : IVec S511x64 1) (start : Fin 2 → ℤ) (h) (k : Fin 511) (h0 : start 0 = k) (h1 : start 1 = 0)
    (b : Fin 64) : Host.dynamicSlice S1x64 x start h (ix2 0 b) = x (ix2 k b) := by
  refine congrArg x ?_
  funext a; apply Fin.ext
  match a with
  | ⟨0, _⟩ =>
    show (min (max (start 0) 0) ((511 - 1 : ℕ) : ℤ)).toNat + 0 = k.val
    rw [h0]; omega
  | ⟨1, _⟩ =>
    show (min (max (start 1) 0) ((64 - 64 : ℕ) : ℤ)).toNat + b.val = b.val
    rw [h1]; omega

/-- One trip's sums: of the exponentials, over the tag before. -/
def sumR (e : FVec Ideal S64x9 .f32) (T : FVec Ideal S9x9 .f32) (P : FVec Ideal S64x9 .f32) : FVec Ideal S64x9 .f32 :=
  Host.reduceAdd (Host.exp (addf (addf (broadcastInDim S64x9x9 ![0, 1, 2] bcast_S64x1x9_S64x9x9_0_1_2 (broadcastInDim S64x1x9 ![0, 2] bcast_S64x9_S64x1x9_0_2 e))
    (broadcastInDim S64x9x9 ![0, 1, 2] bcast_S64x9x1_S64x9x9_0_1_2 (broadcastInDim S64x9x1 ![0, 1] bcast_S64x9_S64x9x1_0_1 P)))
    (broadcastInDim S64x9x9 ![0, 1, 2] bcast_S1x9x9_S64x9x9_0_1_2 (broadcastInDim S1x9x9 ![1, 2] bcast_S9x9_S1x9x9_1_2 T))))
    (constant S_ .f32 0x00000000#32) reducesTo_S64x9x9_S64x9_d1 h_S_

theorem sumR_apply (e : FVec Ideal S64x9 .f32) (T : FVec Ideal S9x9 .f32) (P : FVec Ideal S64x9 .f32) (b : Fin 64) (j : Fin 9) :
    sumR e T P (ix2 b j) = ∑ i : Fin 9, Ideal.exp ((e (ix2 b j) + P (ix2 b i)) + T (ix2 i j)) := by
  pointwise [sumR]

/-- One trip: the logarithm of the sums where the mask is set. -/
def tripR (f : FVec Ideal S511x64x9 .f32) (mk : IVec S511x64 1) (T : FVec Ideal S9x9 .f32) (P : FVec Ideal S64x9 .f32) (n : IVec S_ 32) : FVec Ideal S64x9 .f32 :=
  select (broadcastInDim S64x9 ![0, 1] bcast_S64x1_S64x9_0_1 (broadcastInDim S64x1 ![0] bcast_S64_S64x1_0 (shapeCast S64 (Host.dynamicSlice S1x64 mk (fun k => (((![n, constantI S_ 32 0#32] : Fin 2 → IVec S_ 32)) k (Shape.Idx.first h_S_)).toInt) sliceFits_S511x64_S1x64) shapeCasts_S1x64_S64)))
    (Host.log (sumR (shapeCast S64x9 (Host.dynamicSlice S1x64x9 f (fun k => (((![n, constantI S_ 32 0#32, constantI S_ 32 0#32] : Fin 3 → IVec S_ 32)) k (Shape.Idx.first h_S_)).toInt) sliceFits_S511x64x9_S1x64x9) shapeCasts_S1x64x9_S64x9) T P)) P

theorem step_eq (V0 : Valuation τ sig (Elt Ideal)) : step_main_v25_4 V0 = tripR (V0 (Proc.devRef .tc main_v25_0)) (V0 (Proc.devRef .tc main_v25_1))
    (V0 (Proc.devRef .tc main_v25_2)) (V0 (Proc.devRef .tc main_v25_4)) (V0 (Proc.devRef .tc main_v25_3)) := rfl

theorem tripR_apply (f : FVec Ideal S511x64x9 .f32) (mk : IVec S511x64 1) (T : FVec Ideal S9x9 .f32) (P : FVec Ideal S64x9 .f32) (k : Fin 511)
    (hm : ∀ b, mk (ix2 k b) = 1#1) (b : Fin 64) (j : Fin 9) : tripR f mk T P (fun _ => Scf.iv 0#32 1#32 k) (ix2 b j)
      = Ideal.log (∑ i : Fin 9, Ideal.exp ((f (ix3 k b j) + P (ix2 b i)) + T (ix2 i j))) := by
  have e : (Scf.iv 0#32 1#32 k.val).toInt = k := by
    have : Scf.iv 0#32 1#32 k.val = BitVec.ofNat 32 k := by
      rw [Scf.iv]; simp
    rw [this, StableHlo.Predicate.toInt_ofNat_small _ (by omega)]
  unfold tripR
  generalize hs : Host.dynamicSlice S1x64x9 f _ _ = fs
  generalize ht : Host.dynamicSlice S1x64 mk _ _ = ms
  have hf : ∀ b j, fs (ix3 0 b j) = f (ix3 k b j) := fun b j => by
    rw [← hs]; exact slice_feat f _ _ k e rfl rfl b j
  have hm' : ∀ b, ms (ix2 0 b) = 1#1 := fun b => by
    rw [← ht, ← hm b]; exact slice_mask mk _ _ k e rfl b
  pointwise [hm', sumR_apply, hf]

/-- The partition after `k` trips. -/
theorem atK_apply (hX : ∀ i, onR (R1 m c) i = 1#1) (h : Ranged (R0 m c) (R2 m c) (R3 m c) (R4 m c) (R5 m c)) (k : ℕ) (hk : k ≤ 511) :
    atK m k c (Proc.devRef .tc main_v25_0) = featR (R0 m c) ∧ atK m k c (Proc.devRef .tc main_v25_1) = maskR (R1 m c)
      ∧ atK m k c (Proc.devRef .tc main_v25_2) = transR (R3 m c)
      ∧ ∀ (b : Fin 64) (j : Fin 9), (atK m k c (Proc.devRef .tc main_v25_4) : FVec Ideal S64x9 .f32) (ix2 b j)
        = (let S := scores (R0 m c) (R2 m c) (R3 m c) (R4 m c) (R5 m c); (Real.log (fwd S.τ (S.φ b) (startW S.st) k j) : EReal)) := by
  induction k with
  | zero =>
    refine ⟨entry0 m c, entry1 m c, entry2 m c, fun b j => ?_⟩
    rw [show atK m 0 c = entryContents preI m c from rfl, entry4]
    refine (firstR_apply _ _ b j).trans ?_
    rw [h.start_eq j, h.feat_eq b 0 j, ← EReal.coe_add]
    refine congrArg _ ?_
    rw [fwd, startW, if_pos j.isLt, ← Real.exp_add, Real.log_exp]
    rfl
  | succ k ih =>
    obtain ⟨i0, i1, i2, i4⟩ := ih (by omega)
    have hs : Agree (atK m (k + 1) c) (STEP (atK m k c)) := trip_agree (atK m k c)
    refine ⟨?_, ?_, ?_, fun b j => ?_⟩
    · rw [hs main_v25_0 (by decide), STEP_main_v25_0, i0]
    · rw [hs main_v25_1 (by decide), STEP_main_v25_1, i1]
    · rw [hs main_v25_2 (by decide), STEP_main_v25_2, i2]
    · rw [hs main_v25_4 (by decide), STEP_main_v25_4, step_eq, i0, i1, i2, atK_ctr]
      refine (tripR_apply _ _ _ _ ⟨k, by omega⟩ (fun b => maskR_apply _ hX _ b) b j).trans ?_
      rw [featR_apply, h.feat_eq]
      have hp := fwd_pos (h.good.bnd b)
      have e : ∀ i : Fin 9, Ideal.exp ((((scores (R0 m c) (R2 m c) (R3 m c) (R4 m c) (R5 m c)).φ b (1 + k) j : EReal)
          + (atK m k c (Proc.devRef .tc main_v25_4) : FVec Ideal S64x9 .f32) (ix2 b i)) + transR (R3 m c) (ix2 i j))
          = ((fun i : ℕ => (let S := scores (R0 m c) (R2 m c) (R3 m c) (R4 m c) (R5 m c);
            Real.exp (S.τ i j) * fwd S.τ (S.φ b) (startW S.st) k i * Real.exp (S.φ b (k + 1) j))) i : EReal) := fun i => by
        rw [i4 b i, transR_apply, h.cdt_eq _ _ (trIx_lt i j), ← EReal.coe_add, ← EReal.coe_add, Ideal.exp_coe, Real.exp_add, Real.exp_add,
          Real.exp_log (hp k i i.isLt), Nat.add_comm 1 k]
        exact congrArg _ (by ring)
      rw [Finset.sum_congr rfl fun i _ => e i, coe_sum, Fin.sum_univ_eq_sum_range (fun i : ℕ => (let S := scores (R0 m c) (R2 m c) (R3 m c) (R4 m c) (R5 m c);
            Real.exp (S.τ i j) * fwd S.τ (S.φ b) (startW S.st) k i * Real.exp (S.φ b (k + 1) j))) 9, ← Finset.sum_mul]
      exact Ideal.log_pos_coe (hp (k + 1) j j.isLt)

end Cert.Crf
-- ==== Proof.Tail.lean ====
/- The reference after its loop, as functions of the arguments, the mask and the last partition, and their values where the mask is set everywhere and the tags are labels. -/
module

public import proofs.«01_k».proof.Proof.RefLoop
import Idealize.ShloMosaic.Lib.Pointwise
import Idealize.ShloMosaic.Lib.ReduceAll

@[expose] public section

noncomputable section

namespace Cert.Crf

open Idealize Idealize.ShloMosaic Idealize.ShloMosaic.TcCoe Cert.ReferenceIdeal Cert.ReferenceIdeal.Gen Cert.ReferenceIdeal.Value StableHlo

/-- A small number is in the range of an array's indices. -/
theorem inside_small {n k : ℕ} (hn : n ≤ k) (hk : k < 2 ^ 31) :
    IntOp.andi (IntOp.cmpi .sge (BitVec.ofNat 32 n) 0#32) (IntOp.cmpi .sle (BitVec.ofNat 32 n) (BitVec.ofNat 32 k)) = 1#1 := by
  have e : ∀ j, j < 2 ^ 31 → (BitVec.ofNat 32 j).toNat = j := fun j hj => by
    rw [BitVec.toNat_ofNat, Nat.mod_eq_of_lt (by omega)]
  have h1 : IntOp.cmpi .sge (BitVec.ofNat 32 n) 0#32 = 1#1 := by
    rw [StableHlo.Predicate.sge_iff_toNat (by rw [e n (by omega)]; omega) (by decide)]
    simp
  have h2 : IntOp.cmpi .sle (BitVec.ofNat 32 n) (BitVec.ofNat 32 k) = 1#1 := by
    rw [StableHlo.Predicate.sle_iff_toNat (by rw [e n (by omega)]; omega) (by rw [e k hk]; omega), e n (by omega), e k hk]
    exact hn
  rw [h1, h2]
  rfl

section Parts
variable (X0 : FVec Ideal S64x512x9 .f32) (X2 : IVec S64x512 32) (X4 X5 : FVec Ideal S9 .f32) (on : IVec S64x512 1) (T : FVec Ideal S9x9 .f32)
  (P : FVec Ideal S64x9 .f32)

/-- The logarithm of the normaliser. -/
def logZR : FVec Ideal S64 .f32 :=
  Host.log (Host.reduceAdd (Host.exp (addf P (broadcastInDim S64x9 ![0, 1] bcast_S1x9_S64x9_0_1 (broadcastInDim S1x9 ![1] bcast_S9_S1x9_1 X5))))
    (constant S_ .f32 0x00000000#32) reducesTo_S64x9_S64_d1 h_S_)

/-- The labels to take the features at. -/
def labR : IVec S64x512x1x1 32 :=
  let I : IVec S64x512x1 32 := broadcastInDim S64x512x1 ![0, 1] bcast_S64x512_S64x512x1_0_1 X2
  shapeCast S64x512x1x1 (select (cmpi .slt I (broadcastInDim S64x512x1 ![] bcast_S_S64x512x1 (constantI S_ 32 0#32)))
    (addi I (broadcastInDim S64x512x1 ![] bcast_S_S64x512x1 (constantI S_ 32 9#32))) I) shapeCasts_S64x512x1_S64x512x1x1

/-- The features at the labels. -/
def featAtR : FVec Ideal S64x512x1 .f32 :=
  select (Host.reduce IntOp.andi (andi (cmpi .sge (labR X2) (broadcastInDim S64x512x1x1 ![] bcast_S_S64x512x1x1 (constantI S_ 32 0#32)))
      (cmpi .sle (labR X2) (broadcastInDim S64x512x1x1 ![0, 1, 2, 3] bcast_S1x1x1x1_S64x512x1x1_0_1_2_3 (broadcastInDim S1x1x1x1 ![3] bcast_S1_S1x1x1x1_3 (constantI S1 32 8#32)))))
      (constantI S_ 1 1#1) reducesTo_S64x512x1x1_S64x512x1_d3 h_S_)
    (Host.gather gather_S64x512x9_S64x512x1x1_S64x512x1_n_2_01_01_2_3_111 X0 (labR X2))
    (broadcastInDim S64x512x1 ![] bcast_S_S64x512x1 (constant S_ .f32 0x7FC00000#32))

/-- The mask as weights. -/
def onF : FVec Ideal S64x512 .f32 := uitofp .f32 on

/-- The sums of the features at the labels. -/
def emitR : FVec Ideal S64 .f32 :=
  Host.reduceAdd (mulf (shapeCast S64x512 (featAtR X0 X2) shapeCasts_S64x512x1_S64x512) (onF on)) (constant S_ .f32 0x00000000#32) reducesTo_S64x512_S64_d1 h_S_

/-- A label per step, with the negative ones counted from the end. -/
def wrapR (I : IVec S64x511 32) : IVec S64x511 32 :=
  select (cmpi .slt I (broadcastInDim S64x511 ![] bcast_S_S64x511 (constantI S_ 32 0#32)))
    (addi I (broadcastInDim S64x511 ![] bcast_S_S64x511 (constantI S_ 32 9#32))) I

/-- The pairs of a label and the next. -/
def nextR : IVec S64x511x2 32 :=
  concatenate S64x511x2 2 [⟨S64x511x1, broadcastInDim S64x511x1 ![0, 1] bcast_S64x511_S64x511x1_0_1 (wrapR (extractStridedSlice S64x511 ![0, 0] X2 slices_S64x512_S64x511_0_0))⟩,
    ⟨S64x511x1, broadcastInDim S64x511x1 ![0, 1] bcast_S64x511_S64x511x1_0_1 (wrapR (extractStridedSlice S64x511 ![0, 1] X2 slices_S64x512_S64x511_0_1))⟩]
    concatenates_S64x511x1_S64x511x1_S64x511x2_d2

/-- The sums of the transitions along the labels. -/
def moveR : FVec Ideal S64 .f32 :=
  Host.reduceAdd (mulf (Host.gather gather_S9x9_S64x511x2_S64x511_n_01_n_n_01_2_11 T (nextR X2)) (extractStridedSlice S64x511 ![0, 1] (onF on) slices_S64x512_S64x511_0_1))
    (constant S_ .f32 0x00000000#32) reducesTo_S64x511_S64_d1 h_S_

/-- The score of a label per row, with the negative ones counted from the end. -/
def atR (X : FVec Ideal S9 .f32) (I : IVec S64 32) : FVec Ideal S64 .f32 :=
  Host.gather gather_S9_S64x1_S64_n_0_n_n_0_1_1 X (broadcastInDim S64x1 ![0] bcast_S64_S64x1_0
    (select (cmpi .slt I (broadcastInDim S64 ![] bcast_S_S64 (constantI S_ 32 0#32))) (addi I (broadcastInDim S64 ![] bcast_S_S64 (constantI S_ 32 9#32))) I))

/-- The first labels. -/
def headR : IVec S64 32 := shapeCast S64 (extractStridedSlice S64x1 ![0, 0] X2 slices_S64x512_S64x1_0_0) shapeCasts_S64x1_S64

/-- The steps the mask counts, less one. -/
def countR : IVec S64x1 32 :=
  broadcastInDim S64x1 ![0] bcast_S64_S64x1_0 (subi (Host.reduce IntOp.addi (extui 32 on natLt_1_32) (constantI S_ 32 0#32) reducesTo_S64x512_S64_d1 h_S_)
    (broadcastInDim S64 ![] bcast_S_S64 (constantI S_ 32 1#32)))

/-- The last steps, with the negative ones counted from the end. -/
def placeR : IVec S64x1x1 32 :=
  shapeCast S64x1x1 (select (cmpi .slt (countR on) (broadcastInDim S64x1 ![] bcast_S_S64x1 (constantI S_ 32 0#32)))
    (addi (countR on) (broadcastInDim S64x1 ![] bcast_S_S64x1 (constantI S_ 32 512#32))) (countR on)) shapeCasts_S64x1_S64x1x1

/-- The last labels. -/
def lastR : IVec S64 32 :=
  shapeCast S64 (select (Host.reduce IntOp.andi (andi (cmpi .sge (placeR on) (broadcastInDim S64x1x1 ![] bcast_S_S64x1x1 (constantI S_ 32 0#32)))
      (cmpi .sle (placeR on) (broadcastInDim S64x1x1 ![0, 1, 2] bcast_S1x1x1_S64x1x1_0_1_2 (broadcastInDim S1x1x1 ![2] bcast_S1_S1x1x1_2 (constantI S1 32 511#32)))))
      (constantI S_ 1 1#1) reducesTo_S64x1x1_S64x1_d2 h_S_)
    (Host.gather gather_S64x512_S64x1x1_S64x1_n_1_0_0_1_2_11 X2 (placeR on))
    (broadcastInDim S64x1 ![] bcast_S_S64x1 (constantI S_ 32 2147483648#32))) shapeCasts_S64x1_S64

/-- The losses. -/
def lossR : FVec Ideal S1x64 .f32 :=
  broadcastInDim S1x64 ![1] bcast_S64_S1x64_1 (subf (logZR X5 P)
    (addf (addf (addf (emitR X0 X2 on) (atR X4 (headR X2))) (moveR X2 on T)) (atR X5 (lastR X2 on))))

theorem lossR_apply (b : Fin 64) : lossR X0 X2 X4 X5 on T P (ix2 0 b) = logZR X5 P (ix1 b)
    - (((emitR X0 X2 on (ix1 b) + atR X4 (headR X2) (ix1 b)) + moveR X2 on T (ix1 b)) + atR X5 (lastR X2 on) (ix1 b)) := by
  pointwise [lossR]

theorem logZR_apply (b : Fin 64) : logZR X5 P (ix1 b) = Ideal.log (∑ i : Fin 9, Ideal.exp (P (ix2 b i) + X5 (ix1 i))) := by
  pointwise [logZR]

variable {X2 on} {t : Fin 64 → ℕ → ℕ} (ht : ∀ b s, t b s < 9) (h2 : ∀ (b : Fin 64) (s : Fin 512), X2 (ix2 b s) = BitVec.ofNat 32 (t b s)) (hon : ∀ i, on i = 1#1)

include hon in
theorem onF_apply (i : S64x512.Idx) : onF on i = 1 := by
  show ((((on i).toNat : ℕ) : ℝ) : EReal) = 1
  rw [hon]
  norm_num

include ht h2 in
theorem labR_apply (b : Fin 64) (s : Fin 512) : labR X2 (ix4 b s 0 0) = BitVec.ofNat 32 (t b s) := by
  have := ht b s
  pointwise [labR, h2]
  exact wrap_small (by omega) _

include ht h2 in
theorem featAtR_apply (b : Fin 64) (s : Fin 512) : featAtR X0 X2 (ix3 b s 0) = X0 (ix3 b s ⟨t b s, ht b s⟩) := by
  have hs := ht b s
  have hw : (Host.gather gather_S64x512x9_S64x512x1x1_S64x512x1_n_2_01_01_2_3_111 X0 (labR X2)) (ix3 b s 0) = X0 (ix3 b s ⟨t b s, hs⟩) := by
    refine (gather_along (by norm_num) _ X0 (labR X2) b s).trans (congrArg X0 ?_)
    rw [ix3_inj]
    refine ⟨rfl, rfl, Fin.ext ?_⟩
    show min (labR X2 (ix4 b s 0 0)).toInt.toNat 8 = _
    rw [labR_apply ht h2, clamp_small (by omega) (by norm_num)]
  unfold featAtR
  generalize hr : Host.reduce IntOp.andi _ _ reducesTo_S64x512x1x1_S64x512x1_d3 _ = r
  have hr1 : r (ix3 b s 0) = 1#1 := by
    rw [← hr]
    refine Host.reduce_andi_one _ _ _ _ _ rfl fun i => ?_
    obtain ⟨i0, i1, i2, i3, rfl⟩ : ∃ (i0 : Fin 64) (i1 : Fin 512) (i2 i3 : Fin 1), i = ix4 i0 i1 i2 i3 := ⟨_, _, _, _, eq_ix4 i⟩
    obtain rfl : i2 = 0 := Subsingleton.elim _ _
    obtain rfl : i3 = 0 := Subsingleton.elim _ _
    have h := ht i0 i1
    have e := labR_apply ht h2 i0 i1
    show IntOp.andi (IntOp.cmpi .sge (labR X2 _) 0#32) (IntOp.cmpi .sle (labR X2 _) (BitVec.ofNat 32 8)) = 1#1
    rw [e, inside_small (by omega) (by norm_num)]
  pointwise [hr1, hw]

include ht h2 hon in
theorem emitR_apply (b : Fin 64) : emitR X0 X2 on (ix1 b) = ∑ s : Fin 512, X0 (ix3 b s ⟨t b s, ht b s⟩) := by
  pointwise [emitR, onF_apply hon, featAtR_apply X0 ht h2]

include ht h2 in
theorem nextR_zero (b : Fin 64) (s : Fin 511) : nextR X2 (ix3 b s 0) = BitVec.ofNat 32 (t b s) := by
  have := ht b s
  pointwise [nextR, wrapR, h2]
  exact wrap_small (by omega) _

include ht h2 in
theorem nextR_one (b : Fin 64) (s : Fin 511) : nextR X2 (ix3 b s 1) = BitVec.ofNat 32 (t b (s + 1)) := by
  have := ht b (s + 1)
  pointwise [nextR, wrapR, h2]
  rw [Nat.add_comm 1]
  exact wrap_small (by omega) _

include ht h2 hon in
theorem moveR_apply (b : Fin 64) : moveR X2 on T (ix1 b) = ∑ s : Fin 511, T (ix2 ⟨t b s, ht b s⟩ ⟨t b (s + 1), ht b _⟩) := by
  pointwise [moveR, onF_apply hon]
  refine Finset.sum_congr rfl fun s _ => ?_
  have h0 := ht b s
  have h1 := ht b (s + 1)
  refine (gather_pair (by norm_num) (by norm_num) _ T (nextR X2) b s).trans (congrArg T ?_)
  rw [ix2_inj]
  constructor
  · apply Fin.ext; show min (nextR X2 (ix3 b s 0)).toInt.toNat 8 = _; rw [nextR_zero ht h2, clamp_small (by omega) (by norm_num)]
  · apply Fin.ext; show min (nextR X2 (ix3 b s 1)).toInt.toNat 8 = _; rw [nextR_one ht h2, clamp_small (by omega) (by norm_num)]

theorem atR_apply (X : FVec Ideal S9 .f32) (I : IVec S64 32) (b : Fin 64) (n : Fin 9) (hI : I (ix1 b) = BitVec.ofNat 32 n) : atR X I (ix1 b) = X (ix1 n) := by
  refine (gather_flat _ rfl rfl rfl rfl X _ b (by norm_num)).trans (congrArg X ?_)
  rw [ix1_inj]
  apply Fin.ext
  show min _ 8 = n.val
  rw [← clamp_small (n := n) (k := 8) (by omega) (by norm_num)]
  refine congrArg (fun z : BitVec 32 => min z.toInt.toNat 8) ?_
  pointwise [hI]
  exact wrap_small (by omega) _

include h2 in
theorem headR_apply (b : Fin 64) : headR X2 (ix1 b) = BitVec.ofNat 32 (t b 0) := by
  pointwise [headR, h2]

include hon in
theorem countR_apply (b : Fin 64) : countR on (ix2 b 0) = BitVec.ofNat 32 511 := by
  have h : (Host.reduce IntOp.addi (extui 32 on natLt_1_32) (constantI S_ 32 0#32) reducesTo_S64x512_S64_d1 h_S_ (ix1 b) : BitVec 32) = BitVec.ofNat 32 512 := by
    apply BitVec.eq_of_toNat_eq
    rw [StableHlo.Predicate.toNat_reduce_count_cols (by norm_num)]
    simp [hon]
  pointwise [countR, h]
  rfl

include hon in
theorem placeR_apply (b : Fin 64) : placeR on (ix3 b 0 0) = BitVec.ofNat 32 511 := by
  pointwise [placeR, countR_apply hon]
  exact wrap_small (by omega) _

include h2 hon in
theorem lastR_apply (b : Fin 64) : lastR X2 on (ix1 b) = BitVec.ofNat 32 (t b 511) := by
  have hw : ∀ b : Fin 64, (Host.gather gather_S64x512_S64x1x1_S64x1_n_1_0_0_1_2_11 X2 (placeR on)) (ix2 b 0) = BitVec.ofNat 32 (t b 511) := fun b => by
    refine (gather_row (by norm_num) _ X2 (placeR on) b).trans ((congrArg X2 ?_).trans (h2 b ⟨511, by norm_num⟩))
    rw [ix2_inj]
    refine ⟨rfl, Fin.ext ?_⟩
    show min (placeR on (ix3 b 0 0)).toInt.toNat 511 = 511
    rw [placeR_apply hon, clamp_small (by omega) (by norm_num)]
  unfold lastR
  generalize hr : Host.reduce IntOp.andi _ _ reducesTo_S64x1x1_S64x1_d2 _ = r
  have hr1 : ∀ b : Fin 64, r (ix2 b 0) = 1#1 := fun b => by
    rw [← hr]
    refine Host.reduce_andi_one _ _ _ _ _ rfl fun i => ?_
    obtain ⟨i0, i1, i2, rfl⟩ : ∃ (i0 : Fin 64) (i1 i2 : Fin 1), i = ix3 i0 i1 i2 := ⟨_, _, _, eq_ix3 i⟩
    obtain rfl : i1 = 0 := Subsingleton.elim _ _
    obtain rfl : i2 = 0 := Subsingleton.elim _ _
    have e := placeR_apply hon i0
    show IntOp.andi (IntOp.cmpi .sge (placeR on _) 0#32) (IntOp.cmpi .sle (placeR on _) (BitVec.ofNat 32 511)) = 1#1
    rw [e, inside_small (by omega) (by norm_num)]
  pointwise [hr1, hw]

end Parts

end Cert.Crf
-- ==== Proof.TailRead.lean ====
/- The operations after the reference's loop, read as a function of what they find. -/
module

public import proofs.«01_k».proof.Proof.Tail
import Idealize.ShloMosaic.Lib.Pointwise

@[expose] public section

noncomputable section

namespace Cert.Crf

open Idealize Idealize.ShloMosaic Idealize.ShloMosaic.TcCoe Cert.ReferenceIdeal Cert.ReferenceIdeal.Gen Cert.ReferenceIdeal.Value StableHlo

set_option maxRecDepth 100000 in
set_option maxHeartbeats 4000000 in
/-- What the operations after the loop make of any contents. -/
theorem tail_read (V : Valuation τ sig (Elt Ideal)) : afterL postI V (Proc.devRef .tc main_v84)
    = lossR (V (Proc.devRef .tc main_arg0)) (V (Proc.devRef .tc main_arg2)) (V (Proc.devRef .tc main_arg4)) (V (Proc.devRef .tc main_arg5))
      (V (Proc.devRef .tc main_v15)) (V (Proc.devRef .tc main_v13)) (V (Proc.devRef .tc main_v25_4)) := by
  simp only [afterL_cons, afterL_nil]
  after_reads_simp
  rfl

end Cert.Crf
-- ==== Proof.RefVal.lean ====
/- The value of the reference's run. -/
module

public import proofs.«01_k».proof.Proof.TailRead
public import proofs.«01_k».proof.Proof.Last
import Idealize.ShloMosaic.Lib.Pointwise

@[expose] public section

noncomputable section

namespace Cert.Crf

open Idealize Idealize.ShloMosaic Idealize.ShloMosaic.TcCoe Cert.ReferenceIdeal Cert.ReferenceIdeal.Gen Cert.ReferenceIdeal.Value StableHlo

variable (m : (l : Loc nD τ sig) → Buf (Elt Ideal) l) (c : Dev nD)

/-- A buffer that the loop does not write is as before the loop. -/
theorem atK_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (k : ℕ) : atK m k c (Proc.devRef .tc r) = entryContents preI m c (Proc.devRef .tc r) := by
  induction k with
  | zero => rfl
  | succ k ih =>
    rw [← ih, show atK m (k + 1) c = afterL bodyI (after condOps (atK m k c)) from rfl]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]

theorem entry13 : entryContents preI m c (Proc.devRef .tc main_v13) = transR (R3 m c) := by
  simp only [entryContents, afterL_cons, afterL_nil]
  after_reads_simp
  rfl

theorem entry15 : entryContents preI m c (Proc.devRef .tc main_v15) = onR (R1 m c) := by
  simp only [entryContents, afterL_cons, afterL_nil]
  after_reads_simp
  rfl

/-- A buffer that nothing before the loop writes is as at the start. -/
theorem entry_keep (r : Ref sig .tc) (h : r ∉ hostOps0_W) : entryContents preI m c (Proc.devRef .tc r) = m ((c.tc : Thread nD τ).loc r) := by
  simp only [entryContents, afterL_cons, afterL_nil]
  rw [after_of_writes_sub _ _ hostOps0_writes h]

/-- The reference's result, read from the arguments and the last partition. -/
theorem result_eq : finalContents condOps preI bodyI postI 511 m c (Proc.devRef .tc main_v84)
    = lossR (R0 m c) (R2 m c) (R4 m c) (R5 m c) (onR (R1 m c)) (transR (R3 m c)) (atK m 511 c (Proc.devRef .tc main_v25_4)) := by
  have k : ∀ r, r ∉ condOps_W → after condOps (atK m 511 c) (Proc.devRef .tc r) = atK m 511 c (Proc.devRef .tc r) := fun r hr =>
    after_of_writes_sub _ _ condOps_writes hr
  refine (tail_read (after condOps (atK m 511 c))).trans ?_
  rw [k main_arg0, k main_arg2, k main_arg4, k main_arg5, k main_v15, k main_v13, k main_v25_4, atK_keep m c main_arg0, atK_keep m c main_arg2, atK_keep m c main_arg4, atK_keep m c main_arg5, atK_keep m c main_v15, atK_keep m c main_v13,
    entry_keep m c main_arg0, entry_keep m c main_arg2, entry_keep m c main_arg4, entry_keep m c main_arg5, entry13, entry15]
  all_goals decide +kernel

/-- The reference's result is the losses. -/
theorem reference_apply (hX : ∀ i, onR (R1 m c) i = 1#1) (h : Ranged (R0 m c) (R2 m c) (R3 m c) (R4 m c) (R5 m c)) (b : Fin 64) :
    (finalContents condOps preI bodyI postI 511 m c (Proc.devRef .tc main_v84) : FVec Ideal S1x64 .f32) (ix2 0 b)
      = (let S := scores (R0 m c) (R2 m c) (R3 m c) (R4 m c) (R5 m c); (loss S.τ (S.φ b) S.st S.sp (S.t b) : EReal)) := by
  rw [result_eq, lossR_apply, logZR_apply]
  have ht := h.good.tag
  have h2 := tags_eq (X0 := R0 m c) (X2 := R2 m c) (X3 := R3 m c) (X4 := R4 m c) (X5 := R5 m c)
  have hp := fwd_pos (h.good.bnd b) 511
  obtain ⟨-, -, -, i4⟩ := atK_apply m c hX h 511 le_rfl
  obtain ⟨P, hP⟩ : ∃ P : FVec Ideal S64x9 .f32, P = atK m 511 c (Proc.devRef .tc main_v25_4) := ⟨_, rfl⟩
  rw [← hP] at i4 ⊢
  rw [emitR_apply _ ht h2 hX, moveR_apply _ ht h2 hX, atR_apply _ _ b ⟨_, ht b 0⟩ (headR_apply h2 b), atR_apply _ _ b ⟨_, ht b 511⟩ (lastR_apply h2 hX b),
    h.start_eq, h.stop_eq]
  simp only [h.feat_eq]
  set S := scores (R0 m c) (R2 m c) (R3 m c) (R4 m c) (R5 m c) with hS
  have z : ∀ i : Fin 9, Ideal.exp (P (ix2 b i) + R5 m c (ix1 i))
      = ((fun i : ℕ => fwd S.τ (S.φ b) (startW S.st) 511 i * Real.exp (S.sp i)) i : EReal) := fun i => by
    rw [i4 b i, h.stop_eq, ← EReal.coe_add, Ideal.exp_coe, Real.exp_add, Real.exp_log (hp i i.isLt)]
  have t1 : ∀ s : Fin 511, transR (R3 m c) (ix2 ⟨S.t b s, ht b s⟩ ⟨S.t b (s + 1), ht b (s + 1)⟩)
      = ((fun s : ℕ => S.τ (S.t b s) (S.t b (s + 1))) s : EReal) := fun s => by
    rw [transR_apply, h.cdt_eq _ _ (trIx_lt ⟨S.t b s, ht b s⟩ ⟨S.t b (s + 1), ht b (s + 1)⟩)]
  rw [Finset.sum_congr rfl fun i _ => z i, Finset.sum_congr rfl fun s _ => t1 s, coe_sum, coe_sum, coe_sum,
    Fin.sum_univ_eq_sum_range (fun i : ℕ => fwd S.τ (S.φ b) (startW S.st) 511 i * Real.exp (S.sp i)) 9,
    Fin.sum_univ_eq_sum_range (fun s : ℕ => S.τ (S.t b s) (S.t b (s + 1))) 511,
    Fin.sum_univ_eq_sum_range (fun s : ℕ => S.φ b s (S.t b s)) 512,
    Ideal.log_pos_coe (Finset.sum_pos (fun i hi => mul_pos (hp i (Finset.mem_range.1 hi)) (Real.exp_pos _)) ⟨0, by simp⟩),
    ← EReal.coe_add, ← EReal.coe_add, ← EReal.coe_add, ← EReal.coe_sub]
  refine congrArg _ ?_
  rw [loss, gold]
  show _ - _ = Real.log (∑ j ∈ Finset.range 9, fwd S.τ (S.φ b) (startW S.st) 511 j * Real.exp (S.sp j)) - _
  ring

end Cert.Crf
-- ==== Proof.RefRun.lean ====
/- The reference's run: it ends with its result read off, its arguments unchanged and no counter standing. -/
module

public import proofs.«01_k».proof.Proof.RefVal
import Idealize.ShloMosaic.Lib.Quiescent

@[expose] public section

noncomputable section

namespace Cert.Crf

open Idealize Idealize.ShloMosaic Idealize.ShloMosaic.TcCoe Cert.ReferenceIdeal Cert.ReferenceIdeal.Gen Cert.ReferenceIdeal.Value StableHlo Idealize.SL.Sem

variable (m : (l : Loc nD τ sig) → Buf (Elt Ideal) l) (ρ : Dev nD → PrngReg)

/-- A buffer that neither the loop nor anything around it writes ends as it was. -/
theorem final_keep (c : Dev nD) (r : Ref sig .tc) (hp : ∀ V : Valuation τ sig (Elt Ideal), afterL postI V (Proc.devRef .tc r) = V (Proc.devRef .tc r))
    (h : r ∉ hostOps0_W) (hc : r ∉ condOps_W) (h0 : r ∉ while0Ops0_W) (h1 : r ∉ while0Ops0_1_W) (h2 : r ∉ while0Ops0_2_W)
    (h3 : r ∉ while0Ops0_3_W) (h4 : r ∉ while0Ops0_4_W) :
    finalContents condOps preI bodyI postI 511 m c (Proc.devRef .tc r) = m ((c.tc : Thread nD τ).loc r) :=
  (hp _).trans ((after_of_writes_sub _ _ condOps_writes hc).trans ((atK_keep m c r hc h0 h1 h2 h3 h4 511).trans (entry_keep m c r h)))

set_option maxRecDepth 100000 in
/-- The operations after the loop write no argument. -/
theorem post_args (V : Valuation τ sig (Elt Ideal)) : afterL postI V (Proc.devRef .tc main_arg0) = V (Proc.devRef .tc main_arg0)
    ∧ afterL postI V (Proc.devRef .tc main_arg1) = V (Proc.devRef .tc main_arg1) ∧ afterL postI V (Proc.devRef .tc main_arg2) = V (Proc.devRef .tc main_arg2)
    ∧ afterL postI V (Proc.devRef .tc main_arg3) = V (Proc.devRef .tc main_arg3) ∧ afterL postI V (Proc.devRef .tc main_arg4) = V (Proc.devRef .tc main_arg4)
    ∧ afterL postI V (Proc.devRef .tc main_arg5) = V (Proc.devRef .tc main_arg5) := by
  simp only [afterL_cons, afterL_nil]
  refine ⟨?_, ?_, ?_, ?_, ?_, ?_⟩ <;> after_reads_simp

/-- The reference ends with its result, and its arguments are unchanged. -/
theorem ref_run : θ_run (defs (F := Ideal)) (onTc (τ := τ) (main (F := Ideal))) ⟨m, fun _ => 0, ρ⟩ (fun r => ∀ c : Dev nD,
    r.2.mem ((c.tc : Thread nD τ).loc main_v84) = finalContents condOps preI bodyI postI 511 m c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c main_v84 rfl,
    (h c main_arg0 rfl).trans (final_keep m c main_arg0 (fun V => (post_args V).1) (by decide) (by decide) (by decide) (by decide) (by decide) (by decide) (by decide)),
    (h c main_arg1 rfl).trans (final_keep m c main_arg1 (fun V => (post_args V).2.1) (by decide) (by decide) (by decide) (by decide) (by decide) (by decide) (by decide)),
    (h c main_arg2 rfl).trans (final_keep m c main_arg2 (fun V => (post_args V).2.2.1) (by decide) (by decide) (by decide) (by decide) (by decide) (by decide) (by decide)),
    (h c main_arg3 rfl).trans (final_keep m c main_arg3 (fun V => (post_args V).2.2.2.1) (by decide) (by decide) (by decide) (by decide) (by decide) (by decide) (by decide)),
    (h c main_arg4 rfl).trans (final_keep m c main_arg4 (fun V => (post_args V).2.2.2.2.1) (by decide) (by decide) (by decide) (by decide) (by decide) (by decide) (by decide)),
    (h c main_arg5 rfl).trans (final_keep m c main_arg5 (fun V => (post_args V).2.2.2.2.2) (by decide) (by decide) (by decide) (by decide) (by decide) (by decide) (by decide))⟩)
    (run_fold m ρ)

/-- The reference has no semaphore, so no counter stands at its end. -/
theorem ref_sem (s : MemSt nD τ sig (Elt Ideal)) : s.sem = fun _ => 0 := sem_eq_zero_of_no_sems rfl s

/-- The reference's frame. -/
theorem ref_frame : θ_run (defs (F := Ideal)) (onTc (τ := τ) (main (F := Ideal))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2, ref_sem r.2⟩) (ref_run m ρ)

end Cert.Crf
-- ==== Proof.Pre.lean ====
/- The precondition, read entry by entry. -/
module

public import proofs.«01_k».proof.Proof.Data
public import proofs.«01_k».proof.Defs
import Idealize.ShloMosaic.Lib.Pointwise

@[expose] public section

noncomputable section

namespace Cert.Crf

open Idealize Idealize.ShloMosaic

/-- The shape relations that the precondition's operations take. -/
theorem preFacts : Cert.Pre_in_range.Facts where
  bcast_S_S64x512 := ⟨fun i => i.elim0, fun i => i.elim0⟩
  bcast_S_S64x512x9 := ⟨fun i => i.elim0, fun i => i.elim0⟩
  bcast_S_S3x5 := ⟨fun i => i.elim0, fun i => i.elim0⟩
  bcast_S_S9 := ⟨fun i => i.elim0, fun i => i.elim0⟩

/-- Both comparisons of a bound hold. -/
theorem small_of_bits {x : EReal} (h : IntOp.andi (Ideal.cmp .oge x (Ideal.ofBits .f32 0xC7800000#32))
    (Ideal.cmp .ole x (Ideal.ofBits .f32 0x47800000#32)) = 1#1) : Small x := by
  have hb : ∀ a b : Bool, IntOp.andi (BitVec.ofBool a) (BitVec.ofBool b) = 1#1 → a = true ∧ b = true := by decide
  have e1 : Ideal.ofBits .f32 0xC7800000#32 = ((-65536 : ℝ) : EReal) := by
    simp [Ideal.ofBits, Ideal.ieee, -EReal.coe_mul]; norm_num
  have e2 : Ideal.ofBits .f32 0x47800000#32 = ((65536 : ℝ) : EReal) := by
    simp [Ideal.ofBits, Ideal.ieee, -EReal.coe_mul]; norm_num
  rw [e1, e2] at h
  have := hb _ _ h
  exact ⟨of_decide_eq_true this.1, of_decide_eq_true this.2⟩

/-- A tag from zero on and below nine. -/
theorem tag_of_bits {x : BitVec 32} (h : IntOp.andi (IntOp.cmpi .sge x 0#32) (IntOp.cmpi .slt x 9#32) = 1#1) : x.toNat < 9 := by
  have hb : ∀ a b : Bool, IntOp.andi (BitVec.ofBool a) (BitVec.ofBool b) = 1#1 → a = true ∧ b = true := by decide
  have := hb _ _ h
  have h0 : (0#32 : BitVec 32).sle x = true := this.1
  have h9 : x.slt 9#32 = true := this.2
  rw [BitVec.sle_eq_decide, decide_eq_true_iff] at h0
  rw [BitVec.slt_eq_decide, decide_eq_true_iff] at h9
  have e0 : (0#32 : BitVec 32).toInt = 0 := by decide
  have e9 : (9#32 : BitVec 32).toInt = 9 := by decide
  have := BitVec.toInt_eq_toNat_cond x
  have hx := x.isLt
  rw [e0] at h0
  rw [e9] at h9
  split at this <;> omega

variable (X0 : FVec Ideal Cert.Pre_in_range.S64x512x9 .f32) (X1 : FVec Ideal Cert.Pre_in_range.S64x512 .f32) (X2 : IVec Cert.Pre_in_range.S64x512 32) (X3 : FVec Ideal Cert.Pre_in_range.S3x5 .f32) (X4 X5 : FVec Ideal Cert.Pre_in_range.S9 .f32)

theorem ranged_of_pre [Cert.Pre_in_range.Facts] (h1 : (Cert.Pre_in_range.fn X0 X1 X2 X3 X4 X5).2.1 = fun _ => 1#1)
    (h2 : (Cert.Pre_in_range.fn X0 X1 X2 X3 X4 X5).2.2.1 = fun _ => 1#1)
    (h3 : (Cert.Pre_in_range.fn X0 X1 X2 X3 X4 X5).2.2.2.1 = fun _ => 1#1)
    (h4 : (Cert.Pre_in_range.fn X0 X1 X2 X3 X4 X5).2.2.2.2.1 = fun _ => 1#1)
    (h5 : (Cert.Pre_in_range.fn X0 X1 X2 X3 X4 X5).2.2.2.2.2 = fun _ => 1#1) : Ranged X0 X2 X3 X4 X5 where
  feat i := small_of_bits (congrFun h2 i)
  tags i := tag_of_bits (congrFun h1 i)
  cdt i := small_of_bits (congrFun h3 i)
  start i := small_of_bits (congrFun h4 i)
  stop i := small_of_bits (congrFun h5 i)

/-- The precondition's first part: every entry of the mask is above zero. -/
theorem mask_of_pre [Cert.Pre_in_range.Facts] (h0 : (Cert.Pre_in_range.fn X0 X1 X2 X3 X4 X5).1 = fun _ => 1#1) (i) :
    Ideal.cmp .ogt (X1 i) (Ideal.ofBits .f32 0x00000000#32) = 1#1 := congrFun h0 i

end Cert.Crf
-- ==== Proof.lean ====
/- The certificate's claim: the three programs run and leave their arguments alone, the named constants have their values, and over the
   extended reals the kernel and the reference return the same losses. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.KernelIdeal.Frame
public import proofs.«01_k».proof.Proof.Gen.KernelIdeal.Value
public import proofs.«01_k».proof.Proof.Gen.Kernel.Frame
public import proofs.«01_k».proof.Proof.Gen.ReferenceIdeal.Run
public import proofs.«01_k».proof.Proof.Host
public import proofs.«01_k».proof.Proof.RefRun
public import proofs.«01_k».proof.Proof.Pre
public import Idealize.ShloMosaic.Adequacy
public import Idealize.ShloMosaic.Init

@[expose] public section

noncomputable section

namespace Cert.Proof

open Idealize Idealize.ShloMosaic Idealize.SL.Sem

/-- The named constants have their values. -/
theorem preserves : Cert.preserves_Kernel_KernelIdeal :=
  ⟨IdealRules.named_const.statement _ _ _ _ _ rfl, IdealRules.named_const.statement _ _ _ _ _ rfl, IdealRules.named_const.statement _ _ _ _ _ rfl⟩

/-- The two programs return the same losses. -/
theorem same_loss : Cert.algebraic_KernelIdeal_ReferenceIdeal_pre_in_range (hKernelIdeal := Cert.KernelIdeal.Gen.facts)
    (hReferenceIdeal := Cert.ReferenceIdeal.Gen.facts) (hPre_in_range := Cert.Crf.preFacts) := by
  intro m g m' g' hp ha
  refine ⟨fun c => Cert.KernelIdeal.Value.G4 m c, Cert.KernelIdeal.Value.run m g, (θ_run _ _ _).mono (fun r h c => ⟨(h c).1.trans ?_, (h c).2⟩) (Cert.Crf.ref_run m' g')⟩
  obtain ⟨a0, a1, a2, a3, a4, a5⟩ := ha c
  obtain ⟨p0, p1, p2, p3, p4, p5⟩ := hp c
  have hR := @Cert.Crf.ranged_of_pre _ _ _ _ _ _ Cert.Crf.preFacts p1 p2 p3 p4 p5
  have hR' : Cert.Crf.Ranged (Cert.Crf.R0 m' c) (Cert.Crf.R2 m' c) (Cert.Crf.R3 m' c) (Cert.Crf.R4 m' c) (Cert.Crf.R5 m' c) := by
    unfold Cert.Crf.R0 Cert.Crf.R2 Cert.Crf.R3 Cert.Crf.R4 Cert.Crf.R5
    rw [a0, a2, a3, a4, a5]
    exact hR
  have hX : ∀ i, Cert.Crf.onR (Cert.Crf.R1 m' c) i = 1#1 := by
    unfold Cert.Crf.R1
    rw [a1]
    exact @Cert.Crf.mask_of_pre _ _ _ _ _ _ Cert.Crf.preFacts p0
  have e : Cert.Crf.scores (Cert.Crf.R0 m' c) (Cert.Crf.R2 m' c) (Cert.Crf.R3 m' c) (Cert.Crf.R4 m' c) (Cert.Crf.R5 m' c)
      = Cert.Crf.scores (Cert.Crf.A0 m c) (Cert.Crf.A2 m c) (Cert.Crf.A3 m c) (Cert.Crf.A4 m c) (Cert.Crf.A5 m c) := by
    unfold Cert.Crf.R0 Cert.Crf.R2 Cert.Crf.R3 Cert.Crf.R4 Cert.Crf.R5
    rw [a0, a2, a3, a4, a5]
  funext i
  obtain ⟨z, b, rfl⟩ : ∃ (z : Fin 1) (b : Fin 64), i = ix2 z b := ⟨_, _, eq_ix2 i⟩
  obtain rfl : z = 0 := Subsingleton.elim _ _
  have hk := Cert.Crf.kernel_apply hR b
  have hr := Cert.Crf.reference_apply m' c hX hR' b
  rw [e] at hr
  exact hr.trans hk.symm

theorem claim : Cert.Claim := ⟨Cert.Kernel.Gen.facts, Cert.KernelIdeal.Gen.facts, Cert.ReferenceIdeal.Gen.facts, Cert.Crf.preFacts,
  fun m g _ => Cert.Kernel.Gen.frame m g, fun m g _ => Cert.KernelIdeal.Gen.frame m g, fun m g _ => Cert.KernelIdeal.Gen.frame m g,
  fun m g _ => Cert.Crf.ref_frame m g, fun m g _ => Cert.Crf.ref_frame m g, preserves, same_loss⟩

end Cert.Proof

end
